-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_scale_usable [hKernelIdeal : Cert.KernelIdeal.Facts] [hReferenceIdeal : Cert.ReferenceIdeal.Facts] [hOn_scale_usable : Cert.On_scale_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![14336, 4096]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v6_0) i = v0 c i)
          ∧ (∀ i : (⟨2, ![14336, 4096]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v6_1) i = v1 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v6_2) i = v2 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v6_3) i = v3 c i)
          ∧ (∀ i : (⟨2, ![4, 14336]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v6_4) i = v4 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.KernelIdeal.nD Cert.KernelIdeal.τ).loc Cert.KernelIdeal.main_v6_5) i = v5 c i)
          ∧ (∀ i : (⟨2, ![4, 14336]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.KernelIdeal.nD Cert.KernelIdeal.τ).loc Cert.KernelIdeal.main_v6_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![14336, 4096]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v118) i = v0 c i)
          ∧ (∀ i : (⟨2, ![14336, 4096]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v100) i = v1 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v59) i = v2 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v75) i = v3 c i)
          ∧ (∀ i : (⟨2, ![4, 14336]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v119) i = v4 c i)
          ∧ (∀ i : (⟨2, ![14336, 512]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.ReferenceIdeal.nD Cert.ReferenceIdeal.τ).loc Cert.ReferenceIdeal.main_v91) i = v5 c i)
          ∧ (∀ i : (⟨2, ![4, 14336]⟩ : Shape).Idx, (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.ReferenceIdeal.nD Cert.ReferenceIdeal.τ).loc Cert.ReferenceIdeal.main_v120) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hOn_scale_usable : Cert.On_scale_usable.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_scale_usable (hKernelIdeal := hKernelIdeal) (hReferenceIdeal := hReferenceIdeal) (hOn_scale_usable := hOn_scale_usable)
-- ==== On_scale_usable.lean ====
abbrev S2x128x4096 : Shape := ⟨3, ![2, 128, 4096]⟩
abbrev S2x128x14336 : Shape := ⟨3, ![2, 128, 14336]⟩
abbrev S512x2048 : Shape := ⟨2, ![512, 2048]⟩
abbrev S512x16 : Shape := ⟨2, ![512, 16]⟩
abbrev S14336x512 : Shape := ⟨2, ![14336, 512]⟩
abbrev S14336x4 : Shape := ⟨2, ![14336, 4]⟩
abbrev S14336x4096 : Shape := ⟨2, ![14336, 4096]⟩
abbrev S14336 : Shape := ⟨1, ![14336]⟩
abbrev S_ : Shape := ⟨0, ![]⟩
abbrev S4x14336 : Shape := ⟨2, ![4, 14336]⟩

class Facts : Prop where
  bcast_S_S14336 : S_.BroadcastsInDim S14336 (![] : Fin 0 → Fin S14336.rank)
  bcast_S14336_S14336x4096_0 : S14336.BroadcastsInDim S14336x4096 (![0] : Fin 1 → Fin S14336x4096.rank)
  bcast_S_S14336x4096 : S_.BroadcastsInDim S14336x4096 (![] : Fin 0 → Fin S14336x4096.rank)
  bcast_S_S14336x512 : S_.BroadcastsInDim S14336x512 (![] : Fin 0 → Fin S14336x512.rank)
  bcast_S_S4x14336 : S_.BroadcastsInDim S4x14336 (![] : Fin 0 → Fin S4x14336.rank)

variable [Facts]

def fn {F : FTy → Type} [FloatOps F] (main_arg0 : FVec F S2x128x4096 .bf16) (main_arg1 : FVec F S2x128x14336 .bf16) (main_arg2 : IVec S512x2048 8) (main_arg3 : FVec F S512x16 .f32) (main_arg4 : IVec S14336x512 8) (main_arg5 : FVec F S14336x4 .f32) (main_arg6 : IVec S14336x512 8) (main_arg7 : FVec F S14336x4 .f32) (main_arg8 : IVec S14336x4096 8) (main_arg9 : FVec F S14336 .f32) (main_arg10 : IVec S14336x4096 8) : IVec S14336x4096 1 × IVec S14336x4096 1 × IVec S14336x512 1 × IVec S14336x512 1 × IVec S4x14336 1 × IVec S14336x512 1 × IVec S4x14336 1 :=
  let main_v0 : FVec F S14336 .f32 := Host.absf main_arg9
  let main_cst : FVec F S_ .f32 := constant S_ .f32 0x00000000#32
  let main_v1 : FVec F S14336 .f32 := broadcastInDim S14336 ![] bcast_S_S14336 main_cst
  let main_v2 : IVec S14336 1 := cmpf .ogt main_v0 main_v1
  let main_cst_0 : FVec F S_ .f32 := constant S_ .f32 0x7F800000#32
  let main_v3 : FVec F S14336 .f32 := broadcastInDim S14336 ![] bcast_S_S14336 main_cst_0
  let main_v4 : IVec S14336 1 := cmpf .olt main_v0 main_v3
  let main_v5 : IVec S14336 1 := andi main_v2 main_v4
  let main_v6 : IVec S14336x4096 1 := broadcastInDim S14336x4096 ![0] bcast_S14336_S14336x4096_0 main_v5
  let main_c : IVec S_ 1 := constantI S_ 1 1#1
  let main_v7 : IVec S14336x4096 1 := broadcastInDim S14336x4096 ![] bcast_S_S14336x4096 main_c
  let main_c_1 : IVec S_ 1 := constantI S_ 1 1#1
  let main_v8 : IVec S14336x512 1 := broadcastInDim S14336x512 ![] bcast_S_S14336x512 main_c_1
  let main_c_2 : IVec S_ 1 := constantI S_ 1 1#1
  let main_v9 : IVec S14336x512 1 := broadcastInDim S14336x512 ![] bcast_S_S14336x512 main_c_2
  let main_c_3 : IVec S_ 1 := constantI S_ 1 1#1
  let main_v10 : IVec S4x14336 1 := broadcastInDim S4x14336 ![] bcast_S_S4x14336 main_c_3
  let main_c_4 : IVec S_ 1 := constantI S_ 1 1#1
  let main_v11 : IVec S14336x512 1 := broadcastInDim S14336x512 ![] bcast_S_S14336x512 main_c_4
  let main_c_5 : IVec S_ 1 := constantI S_ 1 1#1
  let main_v12 : IVec S4x14336 1 := broadcastInDim S4x14336 ![] bcast_S_S4x14336 main_c_5
  (main_v6, main_v7, main_v8, main_v9, main_v10, main_v11, main_v12)
-- ==== Kernel.lean ====
abbrev S2x128x4096 : Shape := ⟨3, ![2, 128, 4096]⟩
abbrev S2x128x14336 : Shape := ⟨3, ![2, 128, 14336]⟩
abbrev S512x2048 : Shape := ⟨2, ![512, 2048]⟩
abbrev S512x16 : Shape := ⟨2, ![512, 16]⟩
abbrev S14336x512 : Shape := ⟨2, ![14336, 512]⟩
abbrev S14336x4 : Shape := ⟨2, ![14336, 4]⟩
abbrev S14336x4096 : Shape := ⟨2, ![14336, 4096]⟩
abbrev S14336 : Shape := ⟨1, ![14336]⟩
abbrev S256x4096 : Shape := ⟨2, ![256, 4096]⟩
abbrev S256x14336 : Shape := ⟨2, ![256, 14336]⟩
abbrev S16x512 : Shape := ⟨2, ![16, 512]⟩
abbrev S4x14336 : Shape := ⟨2, ![4, 14336]⟩
abbrev S1x14336 : Shape := ⟨2, ![1, 14336]⟩
abbrev S256x256 : Shape := ⟨2, ![256, 256]⟩
abbrev S256x512 : Shape := ⟨2, ![256, 512]⟩
abbrev S4x256 : Shape := ⟨2, ![4, 256]⟩
abbrev S1x256 : Shape := ⟨2, ![1, 256]⟩
abbrev S512x4096 : Shape := ⟨2, ![512, 4096]⟩
abbrev S4096x512 : Shape := ⟨2, ![4096, 512]⟩
abbrev S512x128 : Shape := ⟨2, ![512, 128]⟩
abbrev S512x1 : Shape := ⟨2, ![512, 1]⟩
abbrev S512x256 : Shape := ⟨2, ![512, 256]⟩
abbrev S256x4 : Shape := ⟨2, ![256, 4]⟩
abbrev S256x1 : Shape := ⟨2, ![256, 1]⟩
abbrev S32x128 : Shape := ⟨2, ![32, 128]⟩
abbrev S32x1 : Shape := ⟨2, ![32, 1]⟩
abbrev S32 : Shape := ⟨1, ![32]⟩
abbrev S32x4 : Shape := ⟨2, ![32, 4]⟩
abbrev S512x512 : Shape := ⟨2, ![512, 512]⟩

abbrev nBuf : Space → Nat
  | .hbm => 24
  | .vmem => 37
  | .smem => 0
  | _ => 0

abbrev bufTy : (tb : Table) → Fin (tcTables nBuf tb) → BufTy
  | .hbm, ⟨0, _⟩ => ⟨S2x128x4096, .bf16⟩
  | .hbm, ⟨1, _⟩ => ⟨S2x128x14336, .bf16⟩
  | .hbm, ⟨2, _⟩ => ⟨S512x2048, .i8⟩
  | .hbm, ⟨3, _⟩ => ⟨S512x16, .f32⟩
  | .hbm, ⟨4, _⟩ => ⟨S14336x512, .i8⟩
  | .hbm, ⟨5, _⟩ => ⟨S14336x4, .f32⟩
  | .hbm, ⟨6, _⟩ => ⟨S14336x512, .i8⟩
  | .hbm, ⟨7, _⟩ => ⟨S14336x4, .f32⟩
  | .hbm, ⟨8, _⟩ => ⟨S14336x4096, .i8⟩
  | .hbm, ⟨9, _⟩ => ⟨S14336, .f32⟩
  | .hbm, ⟨10, _⟩ => ⟨S14336x4096, .i8⟩
  | .hbm, ⟨11, _⟩ => ⟨S256x4096, .bf16⟩
  | .hbm, ⟨12, _⟩ => ⟨S256x14336, .bf16⟩
  | .hbm, ⟨13, _⟩ => ⟨S16x512, .f32⟩
  | .hbm, ⟨14, _⟩ => ⟨S4x14336, .f32⟩
  | .hbm, ⟨15, _⟩ => ⟨S4x14336, .f32⟩
  | .hbm, ⟨16, _⟩ => ⟨S1x14336, .f32⟩
  | .hbm, ⟨17, _⟩ => ⟨S14336x4096, .i8⟩
  | .hbm, ⟨18, _⟩ => ⟨S14336x4096, .f32⟩
  | .hbm, ⟨19, _⟩ => ⟨S14336x512, .f32⟩
  | .hbm, ⟨20, _⟩ => ⟨S14336x512, .i8⟩
  | .hbm, ⟨21, _⟩ => ⟨S4x14336, .f32⟩
  | .hbm, ⟨22, _⟩ => ⟨S14336x512, .i8⟩
  | .hbm, ⟨23, _⟩ => ⟨S4x14336, .f32⟩
  | .local _ .vmem, ⟨0, _⟩ => ⟨S256x4096, .bf16⟩
  | .local _ .vmem, ⟨1, _⟩ => ⟨S256x256, .bf16⟩
  | .local _ .vmem, ⟨2, _⟩ => ⟨S256x256, .bf16⟩
  | .local _ .vmem, ⟨3, _⟩ => ⟨S512x2048, .i8⟩
  | .local _ .vmem, ⟨4, _⟩ => ⟨S16x512, .f32⟩
  | .local _ .vmem, ⟨5, _⟩ => ⟨S256x512, .i8⟩
  | .local _ .vmem, ⟨6, _⟩ => ⟨S256x512, .i8⟩
  | .local _ .vmem, ⟨7, _⟩ => ⟨S4x256, .f32⟩
  | .local _ .vmem, ⟨8, _⟩ => ⟨S4x256, .f32⟩
  | .local _ .vmem, ⟨9, _⟩ => ⟨S256x512, .i8⟩
  | .local _ .vmem, ⟨10, _⟩ => ⟨S256x512, .i8⟩
  | .local _ .vmem, ⟨11, _⟩ => ⟨S4x256, .f32⟩
  | .local _ .vmem, ⟨12, _⟩ => ⟨S4x256, .f32⟩
  | .local _ .vmem, ⟨13, _⟩ => ⟨S256x4096, .i8⟩
  | .local _ .vmem, ⟨14, _⟩ => ⟨S256x4096, .i8⟩
  | .local _ .vmem, ⟨15, _⟩ => ⟨S1x256, .f32⟩
  | .local _ .vmem, ⟨16, _⟩ => ⟨S1x256, .f32⟩
  | .local _ .vmem, ⟨17, _⟩ => ⟨S256x4096, .i8⟩
  | .local _ .vmem, ⟨18, _⟩ => ⟨S256x4096, .i8⟩
  | .local _ .vmem, ⟨19, _⟩ => ⟨S256x4096, .i8⟩
  | .local _ .vmem, ⟨20, _⟩ => ⟨S256x4096, .i8⟩
  | .local _ .vmem, ⟨21, _⟩ => ⟨S256x4096, .f32⟩
  | .local _ .vmem, ⟨22, _⟩ => ⟨S256x4096, .f32⟩
  | .local _ .vmem, ⟨23, _⟩ => ⟨S256x512, .f32⟩
  | .local _ .vmem, ⟨24, _⟩ => ⟨S256x512, .f32⟩
  | .local _ .vmem, ⟨25, _⟩ => ⟨S256x512, .i8⟩
  | .local _ .vmem, ⟨26, _⟩ => ⟨S256x512, .i8⟩
  | .local _ .vmem, ⟨27, _⟩ => ⟨S4x256, .f32⟩
  | .local _ .vmem, ⟨28, _⟩ => ⟨S4x256, .f32⟩
  | .local _ .vmem, ⟨29, _⟩ => ⟨S256x512, .i8⟩
  | .local _ .vmem, ⟨30, _⟩ => ⟨S256x512, .i8⟩
  | .local _ .vmem, ⟨31, _⟩ => ⟨S4x256, .f32⟩
  | .local _ .vmem, ⟨32, _⟩ => ⟨S4x256, .f32⟩
  | .local _ .vmem, ⟨33, _⟩ => ⟨S512x4096, .bf16⟩
  | .local _ .vmem, ⟨34, _⟩ => ⟨S4096x512, .bf16⟩
  | .local _ .vmem, ⟨35, _⟩ => ⟨S256x512, .f32⟩
  | .local _ .vmem, ⟨36, _⟩ => ⟨S256x512, .bf16⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![57], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S2x128x4096 : Shape := ⟨3, ![2, 128, 4096]⟩
abbrev S2x128x14336 : Shape := ⟨3, ![2, 128, 14336]⟩
abbrev S512x2048 : Shape := ⟨2, ![512, 2048]⟩
abbrev S512x16 : Shape := ⟨2, ![512, 16]⟩
abbrev S14336x512 : Shape := ⟨2, ![14336, 512]⟩
abbrev S14336x4 : Shape := ⟨2, ![14336, 4]⟩
abbrev S14336x4096 : Shape := ⟨2, ![14336, 4096]⟩
abbrev S14336 : Shape := ⟨1, ![14336]⟩
abbrev S512x16x128 : Shape := ⟨3, ![512, 16, 128]⟩
abbrev S_ : Shape := ⟨0, ![]⟩
abbrev S14336x2048 : Shape := ⟨2, ![14336, 2048]⟩
abbrev S14336x4x128 : Shape := ⟨3, ![14336, 4, 128]⟩
abbrev S14336x4x1 : Shape := ⟨3, ![14336, 4, 1]⟩
abbrev S14336x2048x1 : Shape := ⟨3, ![14336, 2048, 1]⟩
abbrev S14336x2048x2 : Shape := ⟨3, ![14336, 2048, 2]⟩
abbrev S14336x1 : Shape := ⟨2, ![14336, 1]⟩
abbrev S4x14336 : Shape := ⟨2, ![4, 14336]⟩

abbrev nBuf : Space → Nat
  | .hbm => 180
  | .vmem => 0
  | .smem => 0
  | _ => 0

abbrev hbmTy0_0 (i : Nat) : BufTy := match i % 128 with
  | 0 => ⟨S2x128x4096, .bf16⟩
  | 1 => ⟨S2x128x14336, .bf16⟩
  | 2 => ⟨S512x2048, .i8⟩
  | 3 => ⟨S512x16, .f32⟩
  | 4 => ⟨S14336x512, .i8⟩
  | 5 => ⟨S14336x4, .f32⟩
  | 6 => ⟨S14336x512, .i8⟩
  | 7 => ⟨S14336x4, .f32⟩
  | 8 => ⟨S14336x4096, .i8⟩
  | 9 => ⟨S14336, .f32⟩
  | 10 => ⟨S14336x4096, .i8⟩
  | 11 => ⟨S14336x4096, .f32⟩
  | 12 => ⟨S14336x4096, .bf16⟩
  | 13 => ⟨S512x16x128, .f32⟩
  | 14 => ⟨S512x2048, .f32⟩
  | 15 => ⟨S512x2048, .bf16⟩
  | 16 => ⟨S512x2048, .i32⟩
  | 17 => ⟨S_, .i32⟩
  | 18 => ⟨S512x2048, .i32⟩
  | 19 => ⟨S512x2048, .i32⟩
  | 20 => ⟨S_, .i32⟩
  | 21 => ⟨S512x2048, .i32⟩
  | 22 => ⟨S512x2048, .i1⟩
  | 23 => ⟨S_, .i32⟩
  | 24 => ⟨S512x2048, .i32⟩
  | 25 => ⟨S512x2048, .i32⟩
  | 26 => ⟨S512x2048, .i32⟩
  | 27 => ⟨S512x2048, .f32⟩
  | 28 => ⟨S512x2048, .bf16⟩
  | 29 => ⟨S512x2048, .bf16⟩
  | 30 => ⟨S_, .i32⟩
  | 31 => ⟨S512x2048, .i32⟩
  | 32 => ⟨S512x2048, .i32⟩
  | 33 => ⟨S_, .i32⟩
  | 34 => ⟨S512x2048, .i32⟩
  | 35 => ⟨S512x2048, .i1⟩
  | 36 => ⟨S_, .i32⟩
  | 37 => ⟨S512x2048, .i32⟩
  | 38 => ⟨S512x2048, .i32⟩
  | 39 => ⟨S512x2048, .i32⟩
  | 40 => ⟨S512x2048, .f32⟩
  | 41 => ⟨S512x2048, .bf16⟩
  | 42 => ⟨S512x2048, .bf16⟩
  | 43 => ⟨S14336x2048, .bf16⟩
  | 44 => ⟨S14336x512, .f32⟩
  | 45 => ⟨S14336x2048, .bf16⟩
  | 46 => ⟨S14336x512, .f32⟩
  | 47 => ⟨S14336x512, .f32⟩
  | 48 => ⟨S14336x512, .i32⟩
  | 49 => ⟨S14336x512, .f32⟩
  | 50 => ⟨S14336x4x128, .f32⟩
  | 51 => ⟨S14336x512, .f32⟩
  | 52 => ⟨S14336x512, .f32⟩
  | 53 => ⟨S14336x512, .i32⟩
  | 54 => ⟨S14336x512, .f32⟩
  | 55 => ⟨S14336x4x128, .f32⟩
  | 56 => ⟨S14336x512, .f32⟩
  | 57 => ⟨S14336x512, .f32⟩
  | 58 => ⟨S_, .f32⟩
  | 59 => ⟨S14336x512, .f32⟩
  | 60 => ⟨S14336x512, .f32⟩
  | 61 => ⟨S_, .f32⟩
  | 62 => ⟨S14336x512, .f32⟩
  | 63 => ⟨S14336x512, .f32⟩
  | 64 => ⟨S14336x512, .f32⟩
  | 65 => ⟨S_, .f32⟩
  | 66 => ⟨S14336x512, .f32⟩
  | 67 => ⟨S14336x512, .f32⟩
  | 68 => ⟨S_, .f32⟩
  | 69 => ⟨S14336x512, .f32⟩
  | 70 => ⟨S14336x512, .f32⟩
  | 71 => ⟨S14336x512, .f32⟩
  | 72 => ⟨S14336x512, .f32⟩
  | 73 => ⟨S_, .f32⟩
  | 74 => ⟨S14336x512, .f32⟩
  | 75 => ⟨S14336x512, .f32⟩
  | 76 => ⟨S_, .f32⟩
  | 77 => ⟨S14336x512, .f32⟩
  | 78 => ⟨S14336x512, .f32⟩
  | 79 => ⟨S14336x512, .f32⟩
  | 80 => ⟨S_, .f32⟩
  | 81 => ⟨S14336x512, .f32⟩
  | 82 => ⟨S14336x512, .f32⟩
  | 83 => ⟨S14336x512, .f32⟩
  | 84 => ⟨S14336x4x128, .f32⟩
  | 85 => ⟨S14336x4x128, .f32⟩
  | 86 => ⟨S_, .f32⟩
  | 87 => ⟨S14336x4, .f32⟩
  | 88 => ⟨S_, .f32⟩
  | 89 => ⟨S14336x4, .f32⟩
  | 90 => ⟨S14336x4, .i1⟩
  | 91 => ⟨S_, .f32⟩
  | 92 => ⟨S14336x4, .f32⟩
  | 93 => ⟨S14336x4, .f32⟩
  | 94 => ⟨S_, .f32⟩
  | 95 => ⟨S_, .f32⟩
  | 96 => ⟨S14336x4, .f32⟩
  | 97 => ⟨S14336x4, .f32⟩
  | 98 => ⟨S14336x4x1, .f32⟩
  | 99 => ⟨S14336x4x128, .f32⟩
  | 100 => ⟨S14336x4x128, .f32⟩
  | 101 => ⟨S14336x4x128, .f32⟩
  | 102 => ⟨S_, .i32⟩
  | 103 => ⟨S_, .i32⟩
  | 104 => ⟨S_, .f32⟩
  | 105 => ⟨S14336x4x128, .f32⟩
  | 106 => ⟨S14336x4x128, .f32⟩
  | 107 => ⟨S_, .f32⟩
  | 108 => ⟨S14336x4x128, .f32⟩
  | 109 => ⟨S14336x4x128, .f32⟩
  | 110 => ⟨S14336x4x128, .i32⟩
  | 111 => ⟨S14336x4x128, .i8⟩
  | 112 => ⟨S14336x512, .i8⟩
  | 113 => ⟨S14336x4x128, .f32⟩
  | 114 => ⟨S14336x4x128, .f32⟩
  | 115 => ⟨S_, .f32⟩
  | 116 => ⟨S14336x4, .f32⟩
  | 117 => ⟨S_, .f32⟩
  | 118 => ⟨S14336x4, .f32⟩
  | 119 => ⟨S14336x4, .i1⟩
  | 120 => ⟨S_, .f32⟩
  | 121 => ⟨S14336x4, .f32⟩
  | 122 => ⟨S14336x4, .f32⟩
  | 123 => ⟨S_, .f32⟩
  | 124 => ⟨S_, .f32⟩
  | 125 => ⟨S14336x4, .f32⟩
  | 126 => ⟨S14336x4, .f32⟩
  | 127 => ⟨S14336x4x1, .f32⟩
  | _ => ⟨S2x128x4096, .bf16⟩

abbrev hbmTy0_1 (i : Nat) : BufTy := match i % 128 with
  | 0 => ⟨S14336x4x128, .f32⟩
  | 1 => ⟨S14336x4x128, .f32⟩
  | 2 => ⟨S14336x4x128, .f32⟩
  | 3 => ⟨S_, .i32⟩
  | 4 => ⟨S_, .i32⟩
  | 5 => ⟨S_, .f32⟩
  | 6 => ⟨S14336x4x128, .f32⟩
  | 7 => ⟨S14336x4x128, .f32⟩
  | 8 => ⟨S_, .f32⟩
  | 9 => ⟨S14336x4x128, .f32⟩
  | 10 => ⟨S14336x4x128, .f32⟩
  | 11 => ⟨S14336x4x128, .i32⟩
  | 12 => ⟨S14336x4x128, .i8⟩
  | 13 => ⟨S14336x512, .i8⟩
  | 14 => ⟨S14336x512, .bf16⟩
  | 15 => ⟨S14336x2048, .f32⟩
  | 16 => ⟨S14336x2048, .f32⟩
  | 17 => ⟨S14336x2048x1, .f32⟩
  | 18 => ⟨S14336x2048x1, .f32⟩
  | 19 => ⟨S14336x2048x2, .f32⟩
  | 20 => ⟨S14336x4096, .f32⟩
  | 21 => ⟨S_, .f32⟩
  | 22 => ⟨S14336x4096, .f32⟩
  | 23 => ⟨S14336x4096, .f32⟩
  | 24 => ⟨S14336x4096, .i32⟩
  | 25 => ⟨S14336x4096, .f32⟩
  | 26 => ⟨S14336x1, .f32⟩
  | 27 => ⟨S14336x4096, .f32⟩
  | 28 => ⟨S14336x4096, .f32⟩
  | 29 => ⟨S14336x4096, .f32⟩
  | 30 => ⟨S14336x4096, .i32⟩
  | 31 => ⟨S14336x4096, .f32⟩
  | 32 => ⟨S_, .f32⟩
  | 33 => ⟨S14336x4096, .f32⟩
  | 34 => ⟨S14336x4096, .f32⟩
  | 35 => ⟨S14336x1, .f32⟩
  | 36 => ⟨S14336x4096, .f32⟩
  | 37 => ⟨S14336x4096, .f32⟩
  | 38 => ⟨S14336x4096, .f32⟩
  | 39 => ⟨S14336x4096, .f32⟩
  | 40 => ⟨S_, .i32⟩
  | 41 => ⟨S_, .i32⟩
  | 42 => ⟨S_, .f32⟩
  | 43 => ⟨S14336x4096, .f32⟩
  | 44 => ⟨S14336x4096, .f32⟩
  | 45 => ⟨S_, .f32⟩
  | 46 => ⟨S14336x4096, .f32⟩
  | 47 => ⟨S14336x4096, .f32⟩
  | 48 => ⟨S14336x4096, .i32⟩
  | 49 => ⟨S14336x4096, .i8⟩
  | 50 => ⟨S4x14336, .f32⟩
  | 51 => ⟨S4x14336, .f32⟩
  | _ => ⟨S2x128x4096, .bf16⟩

abbrev hbmTy (i : Nat) : BufTy := match i / 128 with
  | 0 => hbmTy0_0 i
  | 1 => hbmTy0_1 i
  | _ => ⟨S2x128x4096, .bf16⟩

abbrev bufTy : (tb : Table) → Fin (tcTables nBuf tb) → BufTy
  | .hbm, ⟨i, _⟩ => hbmTy i
  | _, _ => ⟨S2x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_c_16 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_cst_20 : Ref sig .tc := ⟨.hbm, 123, rfl⟩
abbrev main_call5_v0 : Ref sig .tc := ⟨.hbm, 124, rfl⟩
abbrev main_call5_v1 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_21 : Ref sig .tc := ⟨.hbm, 131, rfl⟩
abbrev main_c_22 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_23 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_24 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_c_25 : Ref sig .tc := ⟨.hbm, 168, rfl⟩
abbrev main_c_26 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩

abbrev nD : Nat := 1
abbrev τ : Topo := Topo.v7x

variable {F : FTy → Type} [FloatOps F]
-- ==== Proof.Spec.lean ====
module

public import Idealize.ShloMosaic.Lib.Pointwise

/-!
The mathematics of one optimiser step, at the ideal reading (extended reals), one row of the weight matrix at a time.
Both programs are brought to these functions: the kernel through its blocks of 256 rows, the reference directly.
-/

@[expose] public section

noncomputable section

namespace Cert.Step

open Idealize.ShloMosaic

/-- A float32 constant as an extended real. -/
abbrev K (w : BitVec 32) : EReal := Ideal.ofBits FTy.f32 w

/-- The number a 32-bit word denotes when it is converted to a float. -/
abbrev num (w : BitVec 32) : EReal := ((w.toInt : ℝ) : EReal)

/-- The absolute value, as the programs take it. -/
abbrev mag (x : EReal) : EReal := FloatOps.absf (F := Ideal) (φ := .f32) x

/-- A float to a signed byte, as the programs convert. -/
abbrev toByte (x : EReal) : BitVec 8 := FloatOps.fptosi (F := Ideal) (φ := .f32) 8 x

/-- The low nibble of a byte, read signed. -/
def lowNibble (v : BitVec 8) : EReal := num (((v.zeroExtend 32) <<< 28).sshiftRight 28)

/-- The high nibble of a byte, read signed. -/
def highNibble (v : BitVec 8) : EReal := num (((v.zeroExtend 32) <<< 24).sshiftRight 28)

/-- The projector: entry (k, d) is the signed nibble of column d (even columns in the low nibbles, odd columns in the
    high ones) times the scale of its group of 256 columns. -/
def projector (codes : Fin 512 → Fin 2048 → BitVec 8) (scale : Fin 16 → Fin 512 → EReal) (k : Fin 512) (d : Fin 4096) : EReal :=
  (if (d : ℕ) % 2 = 0 then lowNibble (codes k ⟨d / 2, by omega⟩) else highNibble (codes k ⟨d / 2, by omega⟩))
    * scale ⟨d / 256, by omega⟩ k

/-- The gradient of one row, projected: entry k is the sum over the columns d of (the sum over the tokens) times the projector. -/
def projected (dy : Fin 256 → EReal) (x : Fin 256 → Fin 4096 → EReal) (p : Fin 512 → Fin 4096 → EReal) (k : Fin 512) : EReal :=
  ∑ d : Fin 4096, (∑ t : Fin 256, dy t * x t d) * p k d

/-- The new first moment. -/
def moment1 (r s : EReal) (c : BitVec 8) : EReal :=
  K 0x3F666666#32 * (num (c.signExtend 32) * s) + K 0x3DCCCCCD#32 * r

/-- The new second moment. -/
def moment2 (r s : EReal) (c : BitVec 8) : EReal :=
  K 0x3F7FBE77#32 * (num (c.signExtend 32) * s) + K 0x3A83126F#32 * r * r

/-- Adam's direction from the two new moments. -/
def direction (m v : EReal) : EReal :=
  Ideal.div (Ideal.div m (K 0x3F26BD02#32)) (Ideal.sqrt (Ideal.div v (K 0x3C231ACC#32)) + K 0x322BCC77#32)

/-- The largest magnitude of a group of 128. -/
def largest (f : Fin 128 → EReal) : EReal := Finset.fold max (K 0xFF800000#32) (fun l => mag (f l)) Finset.univ

/-- The scale of a group whose largest magnitude is a. -/
def scaleOf (a : EReal) : EReal := if a = 0 then 1 else Ideal.div a (K 0x42FE0000#32)

/-- A number clipped to [-127, 127] as the programs clip, then converted to a signed byte. -/
def clipByte (x : EReal) : BitVec 8 := toByte (min (num 127#32) (max (num 4294967169#32) x))

/-- The code of v at the scale s. -/
def codeOf (v s : EReal) : BitVec 8 := clipByte (Ideal.liftRound Ideal.roundHalfEven (v * Ideal.div 1 s))

/-- A row of 512 numbers in four groups: the scale of group g. -/
def rowScale (f : Fin 512 → EReal) (g : Fin 4) : EReal := scaleOf (largest fun l => f ⟨128 * g + l, by omega⟩)

/-- A row of 512 numbers in four groups: the code of entry k. -/
def rowCode (f : Fin 512 → EReal) (k : Fin 512) : BitVec 8 := codeOf (f k) (rowScale f ⟨k / 128, by omega⟩)

/-- A row's new first moments, from its projected gradient, its old scales and its old codes. -/
def rowMoment1 (r : Fin 512 → EReal) (s : Fin 4 → EReal) (c : Fin 512 → BitVec 8) (k : Fin 512) : EReal :=
  moment1 (r k) (s ⟨k / 128, by omega⟩) (c k)

/-- A row's new second moments. -/
def rowMoment2 (r : Fin 512 → EReal) (s : Fin 4 → EReal) (c : Fin 512 → BitVec 8) (k : Fin 512) : EReal :=
  moment2 (r k) (s ⟨k / 128, by omega⟩) (c k)

/-- A row's direction. -/
def rowDirection (r : Fin 512 → EReal) (ms : Fin 4 → EReal) (mc : Fin 512 → BitVec 8) (vs : Fin 4 → EReal)
    (vc : Fin 512 → BitVec 8) (k : Fin 512) : EReal :=
  direction (rowMoment1 r ms mc k) (rowMoment2 r vs vc k)

/-- A row's change: the step size times the direction brought back through the projector. -/
def rowDelta (n : Fin 512 → EReal) (p : Fin 512 → Fin 4096 → EReal) (d : Fin 4096) : EReal :=
  K 0x3A83126F#32 * ∑ k : Fin 512, n k * p k d

/-- The stochastically rounded new weight code as the kernel takes it: floor of (code + draw) − change · (1 / scale). -/
def newWeight (w u : BitVec 8) (delta s : EReal) : BitVec 8 :=
  clipByte (Ideal.liftRound (fun x => ⌊x⌋)
    ((num (w.signExtend 32) + num (u.zeroExtend 32) * K 0x3B800000#32) - delta * Ideal.div 1 s))

/-- A sum over A · B terms, cut into A runs of B. -/
theorem sum_runs (A B N : ℕ) (h : N = A * B) (f : Fin N → EReal) :
    ∑ d, f d = ∑ c : Fin A, ∑ l : Fin B, f ⟨B * c + l, by
      have := c.isLt; have := l.isLt; subst h; calc B * c + l < B * c + B := by omega
        _ = B * (c + 1) := by ring
        _ ≤ A * B := by rw [Nat.mul_comm A B]; exact Nat.mul_le_mul_left _ (by omega)⟩ := by
  subst h
  rw [← finProdFinEquiv.sum_comp, Fintype.sum_prod_type]
  refine Finset.sum_congr rfl fun c _ => Finset.sum_congr rfl fun l _ => congrArg f (Fin.ext ?_)
  simp [finProdFinEquiv, add_comm]

/-- A sum over 2 · B terms, cut into the even and the odd ones. -/
theorem sum_evenOdd (f : Fin 4096 → EReal) :
    ∑ d, f d = ∑ j : Fin 2048, f ⟨2 * j, by omega⟩ + ∑ j : Fin 2048, f ⟨2 * j + 1, by omega⟩ := by
  rw [sum_runs 2048 2 4096 rfl, ← Finset.sum_add_distrib]
  refine Finset.sum_congr rfl fun j _ => ?_
  rw [Fin.sum_univ_two]
  rfl

end Cert.Step

end
-- ==== Proof.Tiles.lean ====
module

public import proofs.«01_k».proof.Proof.Gen.KernelIdeal.Skeleton
public import proofs.«01_k».proof.Proof.Spec
public import Idealize.ShloMosaic.Lib.Pipeline.ValueKit

/-!
The kernel's vector expressions, each written once with the offsets of its piece as parameters, and each read at an index.
-/

@[expose] public section

set_option maxRecDepth 16384

noncomputable section

namespace Cert.KernelIdeal.Tile

open Cert.KernelIdeal Cert.KernelIdeal.Gen Cert.Step
open Idealize.ShloMosaic Idealize.ShloMosaic.TcCoe

/-! ## Moments, direction and quantiser of one piece of 32 rows by one group of 128 -/

/-- The old moment of a piece: codes times the scale of the group. -/
def oldT (ms : FVec Ideal S256x4 .f32) (o g : ℕ) (h : S256x4.Slices ![o, g] S32x1) (mc : IVec S32x128 8) : FVec Ideal S32x128 .f32 :=
  mulf (sitofp .f32 (extsi 32 mc natLt_8_32)) (broadcastTo S32x128 (extractStridedSlice S32x1 ![o, g] ms h) broadcasts_S32x1_S32x128)

/-- The new first moment of a piece. -/
def mT (r mo : FVec Ideal S32x128 .f32) : FVec Ideal S32x128 .f32 :=
  addf (mulf (broadcast S32x128 (Scalar.ofBits .f32 0x3F666666#32)) mo) (mulf (broadcast S32x128 (Scalar.ofBits .f32 0x3DCCCCCD#32)) r)

/-- The new second moment of a piece. -/
def vT (r vo : FVec Ideal S32x128 .f32) : FVec Ideal S32x128 .f32 :=
  addf (mulf (broadcast S32x128 (Scalar.ofBits .f32 0x3F7FBE77#32)) vo)
    (mulf (mulf (broadcast S32x128 (Scalar.ofBits .f32 0x3A83126F#32)) r) r)

/-- The direction of a piece. -/
def nT (mn vn : FVec Ideal S32x128 .f32) : FVec Ideal S32x128 .f32 :=
  divf (divf mn (broadcast S32x128 (Scalar.ofBits .f32 0x3F26BD02#32)))
    (addf (sqrt (divf vn (broadcast S32x128 (Scalar.ofBits .f32 0x3C231ACC#32)))) (broadcast S32x128 (Scalar.ofBits .f32 0x322BCC77#32)))

/-- The direction of a piece as it is kept for the update. -/
def nbT (mn vn : FVec Ideal S32x128 .f32) : FVec Ideal S32x128 .bf16 :=
  shapeCast S32x128 (truncf .bf16 (nT mn vn) bitsLt_bf16_f32) shapeCasts_S32x128_S32x128

/-- The scales of a piece. -/
def scaleT (v : FVec Ideal S32x128 .f32) : FVec Ideal S32x1 .f32 :=
  have a : FVec Ideal S32x1 .f32 :=
    shapeCast S32x1 (multiReduction .maximumf [1] S32 (absf v) 0xFF800000#32 reduces_S32x128_S32 (.inl rfl) rfl) shapeCasts_S32_S32x1
  select (cmpf .oeq a (broadcast S32x1 (Scalar.ofBits .f32 0x00000000#32))) (broadcast S32x1 (Scalar.ofBits .f32 0x3F800000#32))
    (divf a (broadcast S32x1 (Scalar.ofBits .f32 0x42FE0000#32)))

/-- The codes of a piece. -/
def codesT (v : FVec Ideal S32x128 .f32) : IVec S32x128 8 :=
  fptosi 8 (minimumf (broadcast S32x128 (Scalar.sitofp .f32 127#32)) (maximumf (broadcast S32x128 (Scalar.sitofp .f32 4294967169#32))
    (roundeven (mulf v (broadcastTo S32x128 (divf (broadcast S32x1 (Scalar.ofBits .f32 0x3F800000#32)) (scaleT v)) broadcasts_S32x1_S32x128)))))

/-- A new first moment at an index. -/
theorem mT_apply (r : FVec Ideal S32x128 .f32) (ms : FVec Ideal S256x4 .f32) (o g : ℕ) (h : S256x4.Slices ![o, g] S32x1)
    (mc : IVec S32x128 8) (a : Fin 32) (b : Fin 128) (ho : o + a < 256) (hg : g < 4) :
    mT r (oldT ms o g h mc) (ix2 a b) = moment1 (r (ix2 a b)) (ms (ix2 ⟨o + a, ho⟩ ⟨g, hg⟩)) (mc (ix2 a b)) := by
  pointwise [mT, oldT]
  rfl

/-- A new second moment at an index. -/
theorem vT_apply (r : FVec Ideal S32x128 .f32) (ms : FVec Ideal S256x4 .f32) (o g : ℕ) (h : S256x4.Slices ![o, g] S32x1)
    (mc : IVec S32x128 8) (a : Fin 32) (b : Fin 128) (ho : o + a < 256) (hg : g < 4) :
    vT r (oldT ms o g h mc) (ix2 a b) = moment2 (r (ix2 a b)) (ms (ix2 ⟨o + a, ho⟩ ⟨g, hg⟩)) (mc (ix2 a b)) := by
  pointwise [vT, oldT]
  rfl

/-- A direction at an index. -/
theorem nT_apply (mn vn : FVec Ideal S32x128 .f32) (j : S32x128.Idx) : nT mn vn j = direction (mn j) (vn j) := by
  pointwise [nT]
  rfl

/-- A kept direction at an index. -/
theorem nbT_apply (mn vn : FVec Ideal S32x128 .f32) (j : S32x128.Idx) : nbT mn vn j = direction (mn j) (vn j) := by
  pointwise [nbT]
  exact nT_apply mn vn j

/-- A scale at an index. -/
theorem scaleT_apply (v : FVec Ideal S32x128 .f32) (a : Fin 32) (b : Fin 1) :
    scaleT v (ix2 a b) = scaleOf (largest fun l => v (ix2 a l)) := by
  pointwise [scaleT]
  rfl

/-- A code at an index. -/
theorem codesT_apply (v : FVec Ideal S32x128 .f32) (a : Fin 32) (b : Fin 128) :
    codesT v (ix2 a b) = codeOf (v (ix2 a b)) (scaleOf (largest fun l => v (ix2 a l))) := by
  pointwise [codesT]
  rw [scaleT_apply]
  rfl

/-! ## The projector -/

/-- The 0/1 matrix that interleaves low and high nibbles. -/
theorem perm_apply (n k : Fin 256) :
    (k0_pay2 (F := Ideal)) (ix2 n k) = if (n : ℕ) = 2 * (k % 128) + k / 128 then (1 : EReal) else 0 := by
  pointwise [k0_pay2]
  have hB : ∀ k : Fin 256, IntOp.addi (IntOp.muli (2#32) (IntOp.andi (BitVec.ofNat 32 k) 127#32))
      (IntOp.shrsi ArithUnit.vector (BitVec.ofNat 32 k) 7#32) = BitVec.ofNat 32 (2 * (k % 128) + k / 128) := by decide +kernel
  rw [hB k]
  by_cases h : (n : ℕ) = 2 * (k % 128) + k / 128
  · rw [if_pos h, h]
    simp [Scalar.select, IntOp.cmpi]
  · have hne : BitVec.ofNat 32 (n : ℕ) ≠ BitVec.ofNat 32 (2 * ((k : ℕ) % 128) + k / 128) := by
      intro e
      have := congrArg BitVec.toNat e
      simp only [BitVec.toNat_ofNat] at this
      omega
    rw [if_neg h]
    simp [Scalar.select, IntOp.cmpi, beq_eq_false_iff_ne.mpr hne]

/-- One decoded group of 256 columns, low nibbles first, then high nibbles. -/
def blkT (sc : FVec Ideal S512x16 .f32) (g : ℕ) (h : S512x16.Slices ![0, g] S512x1) (codes : IVec S512x128 32) : FVec Ideal S512x256 .bf16 :=
  have s : FVec Ideal S512x128 .bf16 := truncf .bf16 (broadcastTo S512x128 (shapeCast S512x1 (extractStridedSlice S512x1 ![0, g] sc h)
    shapeCasts_S512x1_S512x1) broadcasts_S512x1_S512x128) bitsLt_bf16_f32
  concatenate S512x256 1
    [⟨S512x128, mulf (truncf .bf16 (sitofp .f32 (shrsi (shli codes (broadcast S512x128 28#32)) (broadcast S512x128 28#32))) bitsLt_bf16_f32) s⟩,
     ⟨S512x128, mulf (truncf .bf16 (sitofp .f32 (shrsi (shli codes (broadcast S512x128 24#32)) (broadcast S512x128 28#32))) bitsLt_bf16_f32) s⟩]
    concatenates_S512x128_S512x128_S512x256_d1

/-- The group in the order of the columns, row by row of the projector. -/
def pT (b : FVec Ideal S512x256 .bf16) : FVec Ideal S512x256 .bf16 :=
  shapeCast S512x256 (truncf .bf16 (matmul dot_S512x256_S256x256_S512x256_1_1_0_0_n_n none b (k0_pay2 (F := Ideal))
    (constant S512x256 .f32 0x00000000#32)) bitsLt_bf16_f32) shapeCasts_S512x256_S512x256

/-- The group in the order of the columns, transposed. -/
def ptT (b : FVec Ideal S512x256 .bf16) : FVec Ideal S256x512 .bf16 :=
  shapeCast S256x512 (truncf .bf16 (matmul dot_S256x256_S512x256_S256x512_1_1_0_0_n_n none (k0_pay2 (F := Ideal)) b
    (constant S256x512 .f32 0x00000000#32)) bitsLt_bf16_f32) shapeCasts_S256x512_S256x512

/-- A decoded group of the projector, low nibbles first and high nibbles after, read at an index. -/
theorem blkT_apply (sc : FVec Ideal S512x16 .f32) (g : ℕ) (h : S512x16.Slices ![0, g] S512x1) (codes : IVec S512x128 8)
   (k : Fin 512) (l : Fin 256) (hg : g < 16) :
   blkT sc g h (extui 32 codes natLt_8_32) (ix2 k l) =
    if hl : (l : ℕ) < 128 then lowNibble (codes (ix2 k ⟨l, hl⟩)) * sc (ix2 k ⟨g, hg⟩)
      else highNibble (codes (ix2 k ⟨l - 128, by omega⟩)) * sc (ix2 k ⟨g, hg⟩) := by
  pointwise [blkT]
  rfl

/-- The one place where the interleaving matrix is 1 in row n, as a condition on the column. -/
theorem perm_iff (n k : Fin 256) : (n : ℕ) = 2 * (k % 128) + k / 128 ↔ k = ⟨n / 2 + 128 * (n % 2), by omega⟩ := by
  rw [Fin.ext_iff]
  show (n : ℕ) = _ ↔ (k : ℕ) = n / 2 + 128 * (n % 2)
  omega

/-- The product with the permutation matrix, read at an index: the column that the permutation sends there. -/
theorem pT_apply (b : FVec Ideal S512x256 .bf16) (k : Fin 512) (n : Fin 256) :
    pT b (ix2 k n) = b (ix2 k ⟨n / 2 + 128 * (n % 2), by omega⟩) := by
  pointwise [pT]
  simp only [perm_apply, perm_iff, mul_ite, mul_one, mul_zero, Finset.sum_ite_eq', Finset.mem_univ, if_true]

/-- The product of the permutation matrix with the transposed block, read at an index. -/
theorem ptT_apply (b : FVec Ideal S512x256 .bf16) (k : Fin 512) (n : Fin 256) :
    ptT b (ix2 n k) = b (ix2 k ⟨n / 2 + 128 * (n % 2), by omega⟩) := by
  pointwise [ptT]
  simp only [perm_apply, perm_iff, ite_mul, one_mul, zero_mul, Finset.sum_ite_eq', Finset.mem_univ, if_true]

/-! ## Projection and update -/

/-- One chunk of 512 columns of the projection. -/
def projT (dyT : FVec Ideal S256x256 .bf16) (x : FVec Ideal S256x512 .bf16) (pt : FVec Ideal S512x512 .bf16) : FVec Ideal S256x512 .f32 :=
  matmul dot_S256x512_S512x512_S256x512_1_0_0_1_n_n none
    (truncf .bf16 (matmul dot_S256x256_S256x512_S256x512_1_0_0_1_n_n none dyT (shapeCast S256x512 x shapeCasts_S256x512_S256x512)
      (constant S256x512 .f32 0x00000000#32)) bitsLt_bf16_f32) pt (constant S256x512 .f32 0x00000000#32)

/-- The projection: the eight chunks added up. -/
def projAllT (dy : FVec Ideal S256x256 .bf16) (x0 x1 x2 x3 x4 x5 x6 x7 : FVec Ideal S256x512 .bf16)
    (p0 p1 p2 p3 p4 p5 p6 p7 : FVec Ideal S512x512 .bf16) : FVec Ideal S256x512 .f32 :=
  have dyT : FVec Ideal S256x256 .bf16 := transpose S256x256 [1, 0] (shapeCast S256x256 dy shapeCasts_S256x256_S256x256) transposes_S256x256_p1_0_S256x256
  shapeCast S256x512 (addf (addf (addf (addf (addf (addf (addf (projT dyT x0 p0) (projT dyT x1 p1)) (projT dyT x2 p2)) (projT dyT x3 p3))
    (projT dyT x4 p4)) (projT dyT x5 p5)) (projT dyT x6 p6)) (projT dyT x7 p7)) shapeCasts_S256x512_S256x512

/-- One chunk's contribution to the projected gradient, read at an index. -/
theorem projT_apply (dy : FVec Ideal S256x256 .bf16) (x : FVec Ideal S256x512 .bf16) (pt : FVec Ideal S512x512 .bf16) (i : Fin 256) (k : Fin 512) :
    projT (transpose S256x256 [1, 0] (shapeCast S256x256 dy shapeCasts_S256x256_S256x256) transposes_S256x256_p1_0_S256x256) x pt (ix2 i k)
      = ∑ d : Fin 512, (∑ t : Fin 256, dy (ix2 t i) * x (ix2 t d)) * pt (ix2 d k) := by
  pointwise [projT]

/-- The projection at an index, for chunks that are the columns of one array x and the rows of one array pt. -/
theorem projAllT_apply (dy : FVec Ideal S256x256 .bf16) (x0 x1 x2 x3 x4 x5 x6 x7 : FVec Ideal S256x512 .bf16)
    (p0 p1 p2 p3 p4 p5 p6 p7 : FVec Ideal S512x512 .bf16) (x : Fin 256 → Fin 4096 → EReal) (p : Fin 512 → Fin 4096 → EReal)
    (hx : ∀ (t : Fin 256) (l : Fin 512), x0 (ix2 t l) = x t ⟨0 + l, by omega⟩ ∧ x1 (ix2 t l) = x t ⟨512 + l, by omega⟩
      ∧ x2 (ix2 t l) = x t ⟨1024 + l, by omega⟩ ∧ x3 (ix2 t l) = x t ⟨1536 + l, by omega⟩ ∧ x4 (ix2 t l) = x t ⟨2048 + l, by omega⟩
      ∧ x5 (ix2 t l) = x t ⟨2560 + l, by omega⟩ ∧ x6 (ix2 t l) = x t ⟨3072 + l, by omega⟩ ∧ x7 (ix2 t l) = x t ⟨3584 + l, by omega⟩)
    (hp : ∀ (l k : Fin 512), p0 (ix2 l k) = p k ⟨0 + l, by omega⟩ ∧ p1 (ix2 l k) = p k ⟨512 + l, by omega⟩
      ∧ p2 (ix2 l k) = p k ⟨1024 + l, by omega⟩ ∧ p3 (ix2 l k) = p k ⟨1536 + l, by omega⟩ ∧ p4 (ix2 l k) = p k ⟨2048 + l, by omega⟩
      ∧ p5 (ix2 l k) = p k ⟨2560 + l, by omega⟩ ∧ p6 (ix2 l k) = p k ⟨3072 + l, by omega⟩ ∧ p7 (ix2 l k) = p k ⟨3584 + l, by omega⟩)
    (i : Fin 256) (k : Fin 512) :
    projAllT dy x0 x1 x2 x3 x4 x5 x6 x7 p0 p1 p2 p3 p4 p5 p6 p7 (ix2 i k) = projected (fun t => dy (ix2 t i)) x p k := by
  unfold projAllT
  simp only [shapeCast_self, addf_apply, Ideal.addf_def]
  unfold projected
  rw [sum_runs 8 512 4096 rfl, Fin.sum_univ_eight]
  have e := fun x' p' => (projT_apply dy x' p' i k)
  simp only [shapeCast_self] at e
  simp only [e, hx, hp]
  rfl

/-- The change of one chunk of 512 columns. -/
def deltaT (nb : FVec Ideal S256x512 .bf16) (p : FVec Ideal S512x512 .bf16) : FVec Ideal S256x512 .f32 :=
  mulf (broadcast S256x512 (Scalar.ofBits .f32 0x3A83126F#32)) (matmul dot_S256x512_S512x512_S256x512_1_0_0_1_n_n none nb p
    (constant S256x512 .f32 0x00000000#32))

/-- A change at an index. -/
theorem deltaT_apply (nb : FVec Ideal S256x512 .bf16) (p : FVec Ideal S512x512 .bf16) (i : Fin 256) (d : Fin 512) :
    deltaT nb p (ix2 i d) = K 0x3A83126F#32 * ∑ k : Fin 512, nb (ix2 i k) * p (ix2 k d) := by
  pointwise [deltaT]

/-- The new weight codes of one chunk of 512 columns. -/
def weightT (inv : FVec Ideal S256x1 .f32) (delta : FVec Ideal S256x512 .f32) (sr w : IVec S256x512 8) : IVec S256x512 8 :=
  fptosi 8 (minimumf (broadcast S256x512 (Scalar.sitofp .f32 127#32)) (maximumf (broadcast S256x512 (Scalar.sitofp .f32 4294967169#32))
    (floor (subf (addf (sitofp .f32 (extsi 32 w natLt_8_32))
      (mulf (sitofp .f32 (extui 32 sr natLt_8_32)) (broadcast S256x512 (Scalar.ofBits .f32 0x3B800000#32))))
      (mulf delta (broadcastTo S256x512 inv broadcasts_S256x1_S256x512))))))

/-- A tile of new weight codes, read at an index. -/
theorem weightT_apply (ws : FVec Ideal S1x256 .f32) (delta : FVec Ideal S256x512 .f32) (sr w : IVec S256x512 8) (i : Fin 256) (d : Fin 512) :
    weightT (k0_pay79 ws) delta sr w (ix2 i d) = newWeight (w (ix2 i d)) (sr (ix2 i d)) (delta (ix2 i d)) (ws (ix2 0 i)) := by
  pointwise [weightT, k0_pay79]
  rfl

end Cert.KernelIdeal.Tile

end
-- ==== Proof.Blocks.lean ====
module

public import proofs.«01_k».proof.Proof.Gen.KernelIdeal.Frame
public import proofs.«01_k».proof.Proof.Tiles
public import Idealize.ShloMosaic.Lib.Pipeline.ValueKit
public import Idealize.ShloMosaic.Lib.Claim

/-!
What each input block of a point holds, read at an index, as elements of the kernel's arguments.
-/

@[expose] public section

set_option maxRecDepth 16384

noncomputable section

namespace Cert.KernelIdeal.Block

open Cert.KernelIdeal Cert.KernelIdeal.Gen Cert.KernelIdeal.Tile
open Idealize.ShloMosaic Idealize.ShloMosaic.TcCoe

/-- Which block each input window shows at a point. -/
theorem idx_in : ∀ t : Fin cfg0.N, win0_0.index t = ![0, 0] ∧ win0_1.index t = ![0, min t.val 55] ∧ win0_2.index t = ![0, 0]
    ∧ win0_3.index t = ![0, 0] ∧ win0_4.index t = ![t.val - 1, 0] ∧ win0_5.index t = ![0, t.val - 1]
    ∧ win0_6.index t = ![t.val - 1, 0] ∧ win0_7.index t = ![0, t.val - 1] ∧ win0_8.index t = ![t.val - 1, 0]
    ∧ win0_9.index t = ![0, t.val - 1] ∧ win0_10.index t = ![t.val - 1, 0] :=
  (by decide +kernel : ∀ t : Fin grid0.N, _)

variable (m : (ℓ : Loc nD τ sig) → Buf (Elt Ideal) ℓ) (c : Dev nD) (t : Fin cfg0.N)

/-- The block of the activations is the whole array, two batches of 128 tokens one after the other. -/
theorem iblk0 (a : Fin 256) (d : Fin 4096) :
    iblk m c 0 t (ix2 a d) = m ((c : Thread nD τ).loc main_arg0) (ix3 (⟨a.val / 128, by omega⟩ : Fin 2) (⟨a.val % 128, by omega⟩ : Fin 128) d) := by
  blk_simp [iblk]; entry_read; pointwise; blk_ext [idx_in t]

/-- The block of the output gradients at point t is the block of columns that starts at 256 min(t, 55). -/
theorem iblk1 (a : Fin 256) (i : Fin 256) :
    iblk m c 1 t (ix2 a i) = m ((c : Thread nD τ).loc main_arg1) (ix3 (⟨a.val / 128, by omega⟩ : Fin 2) (⟨a.val % 128, by omega⟩ : Fin 128)
      (⟨256 * min t.val 55 + i.val, by omega⟩ : Fin 14336)) := by
  blk_simp [iblk]; entry_read; pointwise; blk_ext [idx_in t]

/-- The block of the projector's codes is the whole array. -/
theorem iblk2 (k : Fin 512) (j : Fin 2048) :
    iblk m c 2 t (ix2 k j) = m ((c : Thread nD τ).loc main_arg2) (ix2 k j) := by
  blk_ext [iblk, V, idx_in t]

/-- The block of the projector's scales is the whole array, transposed. -/
theorem iblk3 (g : Fin 16) (k : Fin 512) :
    iblk m c 3 t (ix2 g k) = m ((c : Thread nD τ).loc main_arg3) (ix2 k g) := by
  blk_simp [iblk]; entry_read; pointwise; blk_ext [idx_in t]

/-- The grid has 57 points. -/
theorem N_eq : cfg0.N = 57 := (by decide +kernel : grid0.N = 57)

/-- The row of the weights that row i of the row blocks of point t is. -/
def row (t : Fin cfg0.N) (i : Fin 256) : Fin 14336 :=
  ⟨256 * (t.val - 1) + i.val, by have h : t.val < 57 := Nat.lt_of_lt_of_eq t.isLt N_eq; omega⟩

/-- The block of the first moment's codes at point t is the block of rows that starts at 256 (t - 1). -/
theorem iblk4 (i : Fin 256) (k : Fin 512) :
    iblk m c 4 t (ix2 i k) = m ((c : Thread nD τ).loc main_arg4) (ix2 (row t i) k) := by
  have hr : (row t i).val = 256 * (t.val - 1) + i.val := rfl
  blk_ext [iblk, V, idx_in t]

/-- The block of the second moment's codes at point t is the block of rows that starts at 256 (t - 1). -/
theorem iblk6 (i : Fin 256) (k : Fin 512) :
    iblk m c 6 t (ix2 i k) = m ((c : Thread nD τ).loc main_arg6) (ix2 (row t i) k) := by
  have hr : (row t i).val = 256 * (t.val - 1) + i.val := rfl
  blk_ext [iblk, V, idx_in t]

/-- The block of the weight codes at point t is the block of rows that starts at 256 (t - 1). -/
theorem iblk8 (i : Fin 256) (k : Fin 4096) :
    iblk m c 8 t (ix2 i k) = m ((c : Thread nD τ).loc main_arg8) (ix2 (row t i) k) := by
  have hr : (row t i).val = 256 * (t.val - 1) + i.val := rfl
  blk_ext [iblk, V, idx_in t]

/-- The block of the random bits at point t is the block of rows that starts at 256 (t - 1). -/
theorem iblk10 (i : Fin 256) (k : Fin 4096) :
    iblk m c 10 t (ix2 i k) = m ((c : Thread nD τ).loc main_arg10) (ix2 (row t i) k) := by
  have hr : (row t i).val = 256 * (t.val - 1) + i.val := rfl
  blk_ext [iblk, V, idx_in t]

/-- The block of the first moment's scales at point t, transposed: the rows from 256 (t - 1) on. -/
theorem iblk5 (g : Fin 4) (i : Fin 256) :
    iblk m c 5 t (ix2 g i) = m ((c : Thread nD τ).loc main_arg5) (ix2 (row t i) g) := by
  have hr : (row t i).val = 256 * (t.val - 1) + i.val := rfl
  blk_simp [iblk]; entry_read; pointwise; blk_ext [idx_in t]

/-- The block of the second moment's scales at point t, transposed: the rows from 256 (t - 1) on. -/
theorem iblk7 (g : Fin 4) (i : Fin 256) :
    iblk m c 7 t (ix2 g i) = m ((c : Thread nD τ).loc main_arg7) (ix2 (row t i) g) := by
  have hr : (row t i).val = 256 * (t.val - 1) + i.val := rfl
  blk_simp [iblk]; entry_read; pointwise; blk_ext [idx_in t]

/-- The block of the weight scales at point t: those of the rows from 256 (t - 1) on. -/
theorem iblk9 (i : Fin 256) :
    iblk m c 9 t (ix2 (0 : Fin 1) i) = m ((c : Thread nD τ).loc main_arg9) (ix1 (row t i)) := by
  have hr : (row t i).val = 256 * (t.val - 1) + i.val := rfl
  blk_simp [iblk]; entry_read; pointwise; blk_ext [idx_in t]

end Cert.KernelIdeal.Block
-- ==== Proof.Block.lean ====
module

public import proofs.«01_k».proof.Proof.Tiles
public import Idealize.ShloMosaic.Lib.Pipeline.ValueKit.Tiles

/-!
One block of 256 rows of the kernel, piece by piece: the pieces' vectors are the row functions of `Spec.lean`.
-/

@[expose] public section

set_option maxRecDepth 16384

noncomputable section

namespace Cert.KernelIdeal.Block

open Cert.KernelIdeal Cert.KernelIdeal.Gen Cert.KernelIdeal.Tile Cert.Step
open Idealize.ShloMosaic Idealize.ShloMosaic.TcCoe

/-- The first moments of row i of a block: r its projected gradient, s its old scales, c its old codes. -/
def m1 (r : FVec Ideal S256x512 .f32) (s : FVec Ideal S4x256 .f32) (c : IVec S256x512 8) (i : Fin 256) : Fin 512 → EReal :=
  rowMoment1 (fun k => r (ix2 i k)) (fun g => s (ix2 g i)) (fun k => c (ix2 i k))

/-- The second moments of row i of a block. -/
def m2 (r : FVec Ideal S256x512 .f32) (s : FVec Ideal S4x256 .f32) (c : IVec S256x512 8) (i : Fin 256) : Fin 512 → EReal :=
  rowMoment2 (fun k => r (ix2 i k)) (fun g => s (ix2 g i)) (fun k => c (ix2 i k))

/-- The direction of row i of a block. -/
def dir (r : FVec Ideal S256x512 .f32) (ms : FVec Ideal S4x256 .f32) (mc : IVec S256x512 8) (vs : FVec Ideal S4x256 .f32)
    (vc : IVec S256x512 8) (i : Fin 256) (k : Fin 512) : EReal := direction (m1 r ms mc i k) (m2 r vs vc i k)

/-- A vector of 32 by 128 entries holds an array's rows from o on in group g of the columns. -/
def IsPiece {α : Type} (v : S32x128.Idx → α) (X : S256x512.Idx → α) (o g : ℕ) : Prop :=
  ∀ (a : Fin 32) (b : Fin 128) (i : Fin 256) (k : Fin 512), (i : ℕ) = o + a → (k : ℕ) = 128 * g + b → v (ix2 a b) = X (ix2 i k)

/-- A load of 32 rows and 128 columns is such a vector. -/
theorem isPiece_ld {e : EltTy} (X : S256x512.Idx → Elt Ideal e) (o q g : ℕ) (inb) (hq : q = 128 * g) :
    IsPiece (View.ld (Val := Elt Ideal) (e' := e) X (Rect.unit (s := S256x512) ![o, q] ![32, 128] inb)) X o g := by
  subst hq
  intro a b i k hi hk
  refine View.ld_unit_apply_of X _ _ inb _ (ix2 i k) fun d => ?_
  match d with
  | ⟨0, _⟩ => exact hi
  | ⟨1, _⟩ => exact hk

/-- An index of a piece is made of its two coordinates. -/
theorem piece_eta (x : S32x128.Idx) : ∃ (a : Fin 32) (b : Fin 128), x = ix2 a b := ⟨x 0, x 1, funext fun d => by
  match d with
  | ⟨0, _⟩ => rfl
  | ⟨1, _⟩ => rfl⟩

section
variable {r : FVec Ideal S32x128 .f32} {R : FVec Ideal S256x512 .f32} {c c' : IVec S32x128 8} {C C' : IVec S256x512 8}
  {o g : ℕ}

/-- A piece's first moments. -/
theorem m1_piece (s : FVec Ideal S4x256 .f32) (h : S256x4.Slices ![o, g] S32x1) (hr : IsPiece r R o g) (hc : IsPiece c C o g)
    (a : Fin 32) (b : Fin 128) (i : Fin 256) (k : Fin 512) (hi : (i : ℕ) = o + a) (hk : (k : ℕ) = 128 * g + b) :
    mT r (oldT (k0_pay77 s) o g h c) (ix2 a b) = m1 R s C i k := by
  rw [mT_apply r _ o g h c a b (by omega) (by omega), hr a b i k hi hk, hc a b i k hi hk]
  unfold m1 rowMoment1
  congr 1
  pointwise [k0_pay77]
  congr 2 <;> (apply Fin.ext; dsimp only; omega)

/-- A piece's second moments. -/
theorem m2_piece (s : FVec Ideal S4x256 .f32) (h : S256x4.Slices ![o, g] S32x1) (hr : IsPiece r R o g) (hc : IsPiece c C o g)
    (a : Fin 32) (b : Fin 128) (i : Fin 256) (k : Fin 512) (hi : (i : ℕ) = o + a) (hk : (k : ℕ) = 128 * g + b) :
    vT r (oldT (k0_pay78 s) o g h c) (ix2 a b) = m2 R s C i k := by
  rw [vT_apply r _ o g h c a b (by omega) (by omega), hr a b i k hi hk, hc a b i k hi hk]
  unfold m2 rowMoment2
  congr 1
  pointwise [k0_pay78]
  congr 2 <;> (apply Fin.ext; dsimp only; omega)

/-- A piece's directions. -/
theorem dir_piece (ms vs : FVec Ideal S4x256 .f32) (h : S256x4.Slices ![o, g] S32x1)
    (x : S32x128.Idx) (i : Fin 256) (k : Fin 512) (hr : IsPiece r R o g) (hc : IsPiece c C o g) (hc' : IsPiece c' C' o g)
    (hi : (i : ℕ) = o + x 0) (hk : (k : ℕ) = 128 * g + x 1) :
    nT (mT r (oldT (k0_pay77 ms) o g h c)) (vT r (oldT (k0_pay78 vs) o g h c')) x = dir R ms C vs C' i k := by
  obtain ⟨a, b, rfl⟩ := piece_eta x
  replace hi : (i : ℕ) = o + a := hi
  replace hk : (k : ℕ) = 128 * g + b := hk
  rw [nT_apply, m1_piece ms h hr hc _ _ i k hi hk, m2_piece vs h hr hc' _ _ i k hi hk, dir]

/-- A piece's directions as they are kept for the update. -/
theorem kept_piece (ms vs : FVec Ideal S4x256 .f32) (h : S256x4.Slices ![o, g] S32x1)
    (x : S32x128.Idx) (i : Fin 256) (k : Fin 512) (hr : IsPiece r R o g) (hc : IsPiece c C o g) (hc' : IsPiece c' C' o g)
    (hi : (i : ℕ) = o + x 0) (hk : (k : ℕ) = 128 * g + x 1) :
    nbT (mT r (oldT (k0_pay77 ms) o g h c)) (vT r (oldT (k0_pay78 vs) o g h c')) x = dir R ms C vs C' i k := by
  obtain ⟨a, b, rfl⟩ := piece_eta x
  replace hi : (i : ℕ) = o + a := hi
  replace hk : (k : ℕ) = 128 * g + b := hk
  rw [nbT_apply, m1_piece ms h hr hc _ _ i k hi hk, m2_piece vs h hr hc' _ _ i k hi hk, dir]

/-- The scale of a piece's row of first moments. -/
theorem scale1_piece (s : FVec Ideal S4x256 .f32) (h : S256x4.Slices ![o, g] S32x1) (hr : IsPiece r R o g) (hc : IsPiece c C o g)
    (a : Fin 32) (b : Fin 1) (i : Fin 256) (hi : (i : ℕ) = o + a) (hg : g < 4) :
    scaleT (mT r (oldT (k0_pay77 s) o g h c)) (ix2 a b) = rowScale (m1 R s C i) ⟨g, hg⟩ := by
  rw [scaleT_apply, rowScale]
  exact congrArg (fun f => scaleOf (largest f)) (funext fun l => m1_piece s h hr hc a l i _ hi rfl)

/-- The scale of a piece's row of second moments. -/
theorem scale2_piece (s : FVec Ideal S4x256 .f32) (h : S256x4.Slices ![o, g] S32x1) (hr : IsPiece r R o g) (hc : IsPiece c C o g)
    (a : Fin 32) (b : Fin 1) (i : Fin 256) (hi : (i : ℕ) = o + a) (hg : g < 4) :
    scaleT (vT r (oldT (k0_pay78 s) o g h c)) (ix2 a b) = rowScale (m2 R s C i) ⟨g, hg⟩ := by
  rw [scaleT_apply, rowScale]
  exact congrArg (fun f => scaleOf (largest f)) (funext fun l => m2_piece s h hr hc a l i _ hi rfl)

/-- The codes of a piece's first moments. -/
theorem code1_piece (s : FVec Ideal S4x256 .f32) (h : S256x4.Slices ![o, g] S32x1)
    (x : S32x128.Idx) (i : Fin 256) (k : Fin 512) (hr : IsPiece r R o g) (hc : IsPiece c C o g) (hi : (i : ℕ) = o + x 0) (hk : (k : ℕ) = 128 * g + x 1) :
    codesT (mT r (oldT (k0_pay77 s) o g h c)) x = rowCode (m1 R s C i) k := by
  obtain ⟨a, b, rfl⟩ := piece_eta x
  replace hi : (i : ℕ) = o + a := hi
  replace hk : (k : ℕ) = 128 * g + b := hk
  have hg : (⟨(k : ℕ) / 128, by omega⟩ : Fin 4) = ⟨g, by omega⟩ := Fin.ext (by dsimp only; omega)
  rw [codesT_apply, ← scaleT_apply _ _ 0, m1_piece s h hr hc _ _ i k hi hk, scale1_piece s h hr hc _ _ i hi (by omega), rowCode, hg]

/-- The codes of a piece's second moments. -/
theorem code2_piece (s : FVec Ideal S4x256 .f32) (h : S256x4.Slices ![o, g] S32x1)
    (x : S32x128.Idx) (i : Fin 256) (k : Fin 512) (hr : IsPiece r R o g) (hc : IsPiece c C o g) (hi : (i : ℕ) = o + x 0) (hk : (k : ℕ) = 128 * g + x 1) :
    codesT (vT r (oldT (k0_pay78 s) o g h c)) x = rowCode (m2 R s C i) k := by
  obtain ⟨a, b, rfl⟩ := piece_eta x
  replace hi : (i : ℕ) = o + a := hi
  replace hk : (k : ℕ) = 128 * g + b := hk
  have hg : (⟨(k : ℕ) / 128, by omega⟩ : Fin 4) = ⟨g, by omega⟩ := Fin.ext (by dsimp only; omega)
  rw [codesT_apply, ← scaleT_apply _ _ 0, m2_piece s h hr hc _ _ i k hi hk, scale2_piece s h hr hc _ _ i hi (by omega), rowCode, hg]

end

/-! ## The scales of a whole block -/

/-- Four pieces' scales side by side. -/
def quadT (s0 s1 s2 s3 : FVec Ideal S32x1 .f32) : FVec Ideal S32x4 .f32 :=
  concatenate S32x4 1 [⟨S32x1, s0⟩, ⟨S32x1, s1⟩, ⟨S32x1, s2⟩, ⟨S32x1, s3⟩] concatenates_S32x1_S32x1_S32x1_S32x1_S32x4_d1

/-- Eight rows of pieces' scales, transposed. -/
def scalesT (q0 q1 q2 q3 q4 q5 q6 q7 : FVec Ideal S32x4 .f32) : FVec Ideal S4x256 .f32 :=
  transpose S4x256 [1, 0] (concatenate S256x4 0 [⟨S32x4, q0⟩, ⟨S32x4, q1⟩, ⟨S32x4, q2⟩, ⟨S32x4, q3⟩, ⟨S32x4, q4⟩, ⟨S32x4, q5⟩, ⟨S32x4, q6⟩, ⟨S32x4, q7⟩]
    concatenates_S32x4_S32x4_S32x4_S32x4_S32x4_S32x4_S32x4_S32x4_S256x4_d0) transposes_S256x4_p1_0_S4x256

/-- Four columns side by side read a function of the column's number. -/
theorem quadT_apply (s0 s1 s2 s3 : FVec Ideal S32x1 .f32) (f : Fin 4 → EReal) (a : Fin 32) (g : Fin 4)
    (h0 : s0 (ix2 a 0) = f 0) (h1 : s1 (ix2 a 0) = f 1) (h2 : s2 (ix2 a 0) = f 2) (h3 : s3 (ix2 a 0) = f 3) :
    quadT s0 s1 s2 s3 (ix2 a g) = f g := by
  pointwise [quadT]
  fin_cases g
  · exact h0
  · exact h1
  · exact h2
  · exact h3

/-- The scales of 32 rows' first moments, from four pieces. -/
theorem quad1_piece {r0 r1 r2 r3 : FVec Ideal S32x128 .f32} {c0 c1 c2 c3 : IVec S32x128 8} {o : ℕ} (R : FVec Ideal S256x512 .f32)
    (C : IVec S256x512 8) (s : FVec Ideal S4x256 .f32) (h0 : S256x4.Slices ![o, 0] S32x1) (h1 : S256x4.Slices ![o, 1] S32x1)
    (h2 : S256x4.Slices ![o, 2] S32x1) (h3 : S256x4.Slices ![o, 3] S32x1) (a : Fin 32) (g : Fin 4) (i : Fin 256) (hi : (i : ℕ) = o + a)
    (p0 : IsPiece r0 R o 0) (p1 : IsPiece r1 R o 1) (p2 : IsPiece r2 R o 2) (p3 : IsPiece r3 R o 3)
    (d0 : IsPiece c0 C o 0) (d1 : IsPiece c1 C o 1) (d2 : IsPiece c2 C o 2) (d3 : IsPiece c3 C o 3) :
    quadT (scaleT (mT r0 (oldT (k0_pay77 s) o 0 h0 c0))) (scaleT (mT r1 (oldT (k0_pay77 s) o 1 h1 c1)))
      (scaleT (mT r2 (oldT (k0_pay77 s) o 2 h2 c2))) (scaleT (mT r3 (oldT (k0_pay77 s) o 3 h3 c3))) (ix2 a g) = rowScale (m1 R s C i) g :=
  quadT_apply _ _ _ _ (rowScale (m1 R s C i)) a g (scale1_piece s h0 p0 d0 a 0 i hi (by decide)) (scale1_piece s h1 p1 d1 a 0 i hi (by decide))
    (scale1_piece s h2 p2 d2 a 0 i hi (by decide)) (scale1_piece s h3 p3 d3 a 0 i hi (by decide))

/-- The scales of 32 rows' second moments, from four pieces. -/
theorem quad2_piece {r0 r1 r2 r3 : FVec Ideal S32x128 .f32} {c0 c1 c2 c3 : IVec S32x128 8} {o : ℕ} (R : FVec Ideal S256x512 .f32)
    (C : IVec S256x512 8) (s : FVec Ideal S4x256 .f32) (h0 : S256x4.Slices ![o, 0] S32x1) (h1 : S256x4.Slices ![o, 1] S32x1)
    (h2 : S256x4.Slices ![o, 2] S32x1) (h3 : S256x4.Slices ![o, 3] S32x1) (a : Fin 32) (g : Fin 4) (i : Fin 256) (hi : (i : ℕ) = o + a)
    (p0 : IsPiece r0 R o 0) (p1 : IsPiece r1 R o 1) (p2 : IsPiece r2 R o 2) (p3 : IsPiece r3 R o 3)
    (d0 : IsPiece c0 C o 0) (d1 : IsPiece c1 C o 1) (d2 : IsPiece c2 C o 2) (d3 : IsPiece c3 C o 3) :
    quadT (scaleT (vT r0 (oldT (k0_pay78 s) o 0 h0 c0))) (scaleT (vT r1 (oldT (k0_pay78 s) o 1 h1 c1)))
      (scaleT (vT r2 (oldT (k0_pay78 s) o 2 h2 c2))) (scaleT (vT r3 (oldT (k0_pay78 s) o 3 h3 c3))) (ix2 a g) = rowScale (m2 R s C i) g :=
  quadT_apply _ _ _ _ (rowScale (m2 R s C i)) a g (scale2_piece s h0 p0 d0 a 0 i hi (by decide)) (scale2_piece s h1 p1 d1 a 0 i hi (by decide))
    (scale2_piece s h2 p2 d2 a 0 i hi (by decide)) (scale2_piece s h3 p3 d3 a 0 i hi (by decide))

/-- A choice both of whose branches have a value has that value. -/
theorem dite_both {α : Type} {p : Prop} [Decidable p] {a : p → α} {b : ¬p → α} {v : α} (ha : ∀ h, a h = v) (hb : ∀ h, b h = v) :
    dite p a b = v := by
  split
  · exact ha _
  · exact hb _

/-- The stacked scales read a function of row and group when each of the eight does at its rows. -/
theorem scalesT_apply (q0 q1 q2 q3 q4 q5 q6 q7 : FVec Ideal S32x4 .f32) (f : Fin 256 → Fin 4 → EReal)
    (h : ∀ (a : Fin 32) (g : Fin 4), q0 (ix2 a g) = f ⟨0 + a, by omega⟩ g ∧ q1 (ix2 a g) = f ⟨32 + a, by omega⟩ g ∧ q2 (ix2 a g) = f ⟨64 + a, by omega⟩ g
      ∧ q3 (ix2 a g) = f ⟨96 + a, by omega⟩ g ∧ q4 (ix2 a g) = f ⟨128 + a, by omega⟩ g ∧ q5 (ix2 a g) = f ⟨160 + a, by omega⟩ g
      ∧ q6 (ix2 a g) = f ⟨192 + a, by omega⟩ g ∧ q7 (ix2 a g) = f ⟨224 + a, by omega⟩ g)
    (i : Fin 256) (g : Fin 4) : scalesT q0 q1 q2 q3 q4 q5 q6 q7 (ix2 g i) = f i g := by
  pointwise [scalesT]
  have e (n : ℕ) (a : ℕ) (ha : n + a < 256) (hi : (i : ℕ) = n + a) : (⟨n + a, ha⟩ : Fin 256) = i := Fin.ext hi.symm
  refine dite_both (fun _ => by rw [(h _ g).1, e _ _ _ (by dsimp only; omega)]) fun _ => ?_
  refine dite_both (fun _ => by rw [(h _ g).2.1, e _ _ _ (by dsimp only; omega)]) fun _ => ?_
  refine dite_both (fun _ => by rw [(h _ g).2.2.1, e _ _ _ (by dsimp only; omega)]) fun _ => ?_
  refine dite_both (fun _ => by rw [(h _ g).2.2.2.1, e _ _ _ (by dsimp only; omega)]) fun _ => ?_
  refine dite_both (fun _ => by rw [(h _ g).2.2.2.2.1, e _ _ _ (by dsimp only; omega)]) fun _ => ?_
  refine dite_both (fun _ => by rw [(h _ g).2.2.2.2.2.1, e _ _ _ (by dsimp only; omega)]) fun _ => ?_
  refine dite_both (fun _ => by rw [(h _ g).2.2.2.2.2.2.1, e _ _ _ (by dsimp only; omega)]) fun _ => ?_
  rw [(h _ g).2.2.2.2.2.2.2, e _ _ _ (by dsimp only; omega)]

/-! ## The update -/

/-- A vector of 512 columns holds an array's columns from q on. -/
def IsChunk {α : Type} {n : ℕ} (v : Shape.Idx ⟨2, ![n, 512]⟩ → α) (X : Shape.Idx ⟨2, ![n, 4096]⟩ → α) (q : ℕ) : Prop :=
  ∀ (a : Fin n) (b : Fin 512) (d : Fin 4096), (d : ℕ) = q + b → v (ix2 a b) = X (ix2 a d)

/-- A load of all rows and 512 columns is such a vector. -/
theorem isChunk_ld {e : EltTy} {n : ℕ} (X : Shape.Idx ⟨2, ![n, 4096]⟩ → Elt Ideal e) (q : ℕ) (inb) :
    IsChunk (View.ld (Val := Elt Ideal) (e' := e) X (Rect.unit (s := ⟨2, ![n, 4096]⟩) ![0, q] ![n, 512] inb)) X q := by
  intro a b d hd
  refine View.ld_unit_apply_of X _ _ inb _ (ix2 a d) fun x => ?_
  match x with
  | ⟨0, _⟩ => exact (Nat.zero_add _).symm
  | ⟨1, _⟩ => exact hd

/-- An index of a chunk of 256 rows is made of its two coordinates. -/
theorem chunk_eta (x : S256x512.Idx) : ∃ (a : Fin 256) (b : Fin 512), x = ix2 a b := ⟨x 0, x 1, funext fun d => by
  match d with
  | ⟨0, _⟩ => rfl
  | ⟨1, _⟩ => rfl⟩

section
variable {nb : FVec Ideal S256x512 .bf16} {p : FVec Ideal S512x512 .bf16} {q : ℕ}

/-- A chunk of the change of the weights. -/
theorem delta_chunk (P : FVec Ideal S512x4096 .bf16) (n : Fin 256 → Fin 512 → EReal) (hn : ∀ i k, nb (ix2 i k) = n i k) (x : S256x512.Idx) (i : Fin 256) (d : Fin 4096)
    (hp : IsChunk (n := 512) p P q) (hi : (i : ℕ) = x 0) (hd : (d : ℕ) = q + x 1) :
    deltaT nb p x = rowDelta (n i) (fun k d => P (ix2 k d)) d := by
  obtain ⟨a, b, rfl⟩ := chunk_eta x
  obtain rfl : i = a := Fin.ext hi
  rw [deltaT_apply, rowDelta]
  simp only [hn, fun k => hp k b d hd]

/-- A chunk of the new weight codes. -/
theorem weight_chunk {sr w : IVec S256x512 8} (P : FVec Ideal S512x4096 .bf16) (SR W : IVec S256x4096 8) (ws : FVec Ideal S1x256 .f32) (n : Fin 256 → Fin 512 → EReal)
    (hn : ∀ i k, nb (ix2 i k) = n i k) (x : S256x512.Idx) (i : Fin 256) (d : Fin 4096)
    (hp : IsChunk (n := 512) p P q) (hs : IsChunk (n := 256) sr SR q) (hw : IsChunk (n := 256) w W q) (hi : (i : ℕ) = x 0) (hd : (d : ℕ) = q + x 1) :
    weightT (k0_pay79 ws) (deltaT nb p) sr w x
      = newWeight (W (ix2 i d)) (SR (ix2 i d)) (rowDelta (n i) (fun k d => P (ix2 k d)) d) (ws (ix2 0 i)) := by
  rw [← delta_chunk P n hn x i d hp hi hd]
  obtain ⟨a, b, rfl⟩ := chunk_eta x
  obtain rfl : i = a := Fin.ext hi
  rw [weightT_apply, hs i b d hd, hw i b d hd]

end

/-- A block of 256 rows and 512 columns that is stored in pieces and loaded whole reads what the pieces hold. -/
theorem readCov_whole {sig : RefSig} {κ : Kind} {sp : Space} {e : EltTy} (v : View sig κ sp S256x512 e) (L : List (View.Piece (Elt Ideal) S256x512 e)) (inb)
    (i : Fin 256) (k : Fin 512) :
    v.readCov L (Rect.unit (s := S256x512) ![0, 0] ![256, 512] inb).toLoadRect (ix2 i k) = View.canon L (ix2 i k) := by
  rw [View.readCov_eq_canon']
  refine congrArg (View.canon L) (funext fun a => Fin.ext ?_)
  match a with
  | ⟨0, _⟩ => show 0 + 1 * (i : ℕ) = i; omega
  | ⟨1, _⟩ => show 0 + 1 * (k : ℕ) = k; omega

/-- `isChunk_ld` at the l-th column. -/
theorem chunk_ld_apply {e : EltTy} {n : ℕ} (X : Shape.Idx ⟨2, ![n, 4096]⟩ → Elt Ideal e) (q : ℕ) (inb) (a : Fin n) (l : Fin 512) (h : q + (l : ℕ) < 4096) :
    View.ld (Val := Elt Ideal) (e' := e) X (Rect.unit (s := ⟨2, ![n, 4096]⟩) ![0, q] ![n, 512] inb) (ix2 a l) = X (ix2 a ⟨q + l, h⟩) :=
  isChunk_ld X q inb a l ⟨q + l, h⟩ rfl

/-- A load of 512 rows, from row q on, holds the array's entries there. -/
theorem rows_ld_apply {e : EltTy} (X : S4096x512.Idx → Elt Ideal e) (q : ℕ) (inb) (l k : Fin 512) (h : q + (l : ℕ) < 4096) :
    View.ld (Val := Elt Ideal) (e' := e) X (Rect.unit (s := S4096x512) ![q, 0] ![512, 512] inb) (ix2 l k) = X (ix2 ⟨q + l, h⟩ k) := by
  refine View.ld_unit_apply_of X _ _ inb _ (ix2 ⟨q + l, h⟩ k) fun x => ?_
  match x with
  | ⟨0, _⟩ => rfl
  | ⟨1, _⟩ => exact (Nat.zero_add _).symm

/-- Rows stored in pieces and loaded 512 at a time, from row q on, read what the pieces hold. -/
theorem readCov_rows {sig : RefSig} {κ : Kind} {sp : Space} {e : EltTy} (v : View sig κ sp S4096x512 e) (L : List (View.Piece (Elt Ideal) S4096x512 e)) (q : ℕ) (inb)
    (l k : Fin 512) (h : q + (l : ℕ) < 4096) :
    v.readCov L (Rect.unit (s := S4096x512) ![q, 0] ![512, 512] inb).toLoadRect (ix2 l k) = View.canon L (ix2 ⟨q + l, h⟩ k) := by
  rw [View.readCov_eq_canon']
  refine congrArg (View.canon L) (funext fun a => Fin.ext ?_)
  match a with
  | ⟨0, _⟩ => show q + 1 * (l : ℕ) = q + l; omega
  | ⟨1, _⟩ => show 0 + 1 * (k : ℕ) = k; omega

/-! ## The projector -/

/-- A vector of 512 by 128 codes holds an array's columns from 128 g on. -/
def IsGroup (v : IVec S512x128 8) (C : IVec S512x2048 8) (g : ℕ) : Prop :=
  ∀ (k : Fin 512) (l : Fin 128) (j : Fin 2048), (j : ℕ) = 128 * g + l → v (ix2 k l) = C (ix2 k j)

/-- A load of 128 columns of codes is such a vector. -/
theorem isGroup_ld (C : IVec S512x2048 8) (q g : ℕ) (inb) (hq : q = 128 * g) :
    IsGroup (View.ld (Val := Elt Ideal) (e' := .i8) C (Rect.unit (s := S512x2048) ![0, q] ![512, 128] inb)) C g := by
  subst hq
  intro k l j hj
  refine View.ld_unit_apply_of (Val := Elt Ideal) (e := .i8) C _ _ inb _ (ix2 k j) fun x => ?_
  match x with
  | ⟨0, _⟩ => exact (Nat.zero_add _).symm
  | ⟨1, _⟩ => exact hj

section
variable {g : ℕ} {v : IVec S512x128 8} {C : IVec S512x2048 8} (sc : FVec Ideal S16x512 .f32) (h : S512x16.Slices ![0, g] S512x1)

/-- A decoded group of the projector, in the kernel's order: low nibbles first. -/
theorem group_apply (hv : IsGroup v C g) (hg : g < 16) (k : Fin 512) (n : Fin 256) (d : Fin 4096) (hd : (d : ℕ) = 256 * g + n) :
    blkT (k0_pay3 sc) g h (extui 32 v natLt_8_32)
        (ix2 k ⟨n / 2 + 128 * (n % 2), by omega⟩)
      = projector (fun k j => C (ix2 k j)) (fun g k => sc (ix2 g k)) k d := by
  have hs : k0_pay3 sc (ix2 k ⟨g, hg⟩) = sc (ix2 ⟨(d : ℕ) / 256, by omega⟩ k) := by
    pointwise [k0_pay3]
    congr 2 <;> (apply Fin.ext; dsimp only; omega)
  rw [blkT_apply _ _ _ _ _ _ hg, hs]
  unfold projector
  have hn : (n : ℕ) < 256 := n.isLt
  by_cases hp : (d : ℕ) % 2 = 0
  · rw [if_pos hp, dif_pos (by dsimp only; omega), hv _ _ ⟨(d : ℕ) / 2, by omega⟩ (by dsimp only; omega)]
  · rw [if_neg hp, dif_neg (by dsimp only; omega), hv _ _ ⟨(d : ℕ) / 2, by omega⟩ (by dsimp only; omega)]

/-- A group of the projector's columns as the kernel keeps it. -/
theorem p_piece (hv : IsGroup v C g) (hg : g < 16) (x : S512x256.Idx) (k : Fin 512) (d : Fin 4096) (hk : (k : ℕ) = x 0) (hd : (d : ℕ) = 256 * g + x 1) :
    pT (blkT (k0_pay3 sc) g h (extui 32 v natLt_8_32)) x
      = projector (fun k j => C (ix2 k j)) (fun g k => sc (ix2 g k)) k d := by
  obtain ⟨a, b, rfl⟩ : ∃ (a : Fin 512) (b : Fin 256), x = ix2 a b := ⟨x 0, x 1, funext fun d => by
    match d with
    | ⟨0, _⟩ => rfl
    | ⟨1, _⟩ => rfl⟩
  obtain rfl : k = a := Fin.ext hk
  rw [pT_apply]
  exact group_apply sc h hv hg k b d hd

/-- The same group transposed. -/
theorem pt_piece (hv : IsGroup v C g) (hg : g < 16) (x : S256x512.Idx) (k : Fin 512) (d : Fin 4096) (hd : (d : ℕ) = 256 * g + x 0) (hk : (k : ℕ) = x 1) :
    ptT (blkT (k0_pay3 sc) g h (extui 32 v natLt_8_32)) x
      = projector (fun k j => C (ix2 k j)) (fun g k => sc (ix2 g k)) k d := by
  obtain ⟨a, b, rfl⟩ := chunk_eta x
  obtain rfl : k = b := Fin.ext hk
  rw [ptT_apply]
  exact group_apply sc h hv hg k a d hd

end

end Cert.KernelIdeal.Block

end
-- ==== Proof.Left.lean ====
module

public import proofs.«01_k».proof.Proof.Gen.KernelIdeal.Frame
public import proofs.«01_k».proof.Proof.Block

/-!
What a point of the grid finds in the scratch arrays that it carries.
-/

@[expose] public section

noncomputable section

namespace Cert.KernelIdeal.Block

open Cert.KernelIdeal Cert.KernelIdeal.Gen
open Idealize.ShloMosaic Idealize.ShloMosaic.TcCoe

/-- The projected gradient that the point before t leaves. -/
abbrev leftR (m : (ℓ : Loc nD τ sig) → Buf (Elt Ideal) ℓ) (c : Dev nD) (t : Fin cfg0.N) : FVec Ideal S256x512 .f32 :=
  (outsAt0 m c (t.val - 1) (Nat.lt_of_le_of_lt (Nat.sub_le _ _) t.isLt)).2.2.2.2.2.2.2.2.2

/-- The projector that the point before t leaves. -/
abbrev leftP (m : (ℓ : Loc nD τ sig) → Buf (Elt Ideal) ℓ) (c : Dev nD) (t : Fin cfg0.N) : FVec Ideal S512x4096 .bf16 :=
  (outsAt0 m c (t.val - 1) (Nat.lt_of_le_of_lt (Nat.sub_le _ _) t.isLt)).2.2.2.2.2.2.2.1

/-- The transposed projector that the point before t leaves. -/
abbrev leftT (m : (ℓ : Loc nD τ sig) → Buf (Elt Ideal) ℓ) (c : Dev nD) (t : Fin cfg0.N) : FVec Ideal S4096x512 .bf16 :=
  (outsAt0 m c (t.val - 1) (Nat.lt_of_le_of_lt (Nat.sub_le _ _) t.isLt)).2.2.2.2.2.2.2.2.1

end Cert.KernelIdeal.Block
end
-- ==== Proof.PointCarried.lean ====
module

public import proofs.«01_k».proof.Proof.Left
public import proofs.«01_k».proof.Proof.Block
public import Idealize.ShloMosaic.Lib.Pipeline.ReadBack

/-!
What each point leaves in the scratch arrays that are carried: the projector, its transpose and the projected gradient.
-/

@[expose] public section

set_option maxRecDepth 16384

noncomputable section

namespace Cert.KernelIdeal.Block

open Cert.KernelIdeal Cert.KernelIdeal.Gen Cert.KernelIdeal.Tile Cert.Step
open Idealize.ShloMosaic Idealize.ShloMosaic.TcCoe

set_option maxHeartbeats 1000000

variable (m : (ℓ : Loc nD τ sig) → Buf (Elt Ideal) ℓ)

/-- From point 1 on a point leaves the projector as it was. -/
theorem left_B (c : Dev nD) (t : Fin cfg0.N) (h : ¬t.val % 57 = 0) :
    (outsAt0 m c t.val t.isLt).2.2.2.2.2.2.2.1 = leftP m c t ∧ (outsAt0 m c t.val t.isLt).2.2.2.2.2.2.2.2.1 = leftT m c t := by
  rw [outsAt0_B m c t h]
  frame_out
  constructor
  · rfl
  · rfl

/-- From point 1 on: the projected gradient that the point leaves. -/
theorem proj_B (c : Dev nD) (t : Fin cfg0.N) (h : ¬t.val % 57 = 0) (i : Fin 256) (k : Fin 512) :
    (outsAt0 m c t.val t.isLt).2.2.2.2.2.2.2.2.2 (ix2 i k)
      = projected (fun a => iblk m c 1 t (ix2 a i)) (fun a d => iblk m c 0 t (ix2 a d)) (fun k d => leftT m c t (ix2 d k)) k := by
  rw [outsAt0_B m c t h]
  frame_out
  simp only [read_unread_whole]
  refine projAllT_apply (iblk m c 1 t) _ _ _ _ _ _ _ _ _ _ _ _ _ _ _ _ (fun a d => iblk m c 0 t (ix2 a d)) (fun k d => leftT m c t (ix2 d k)) (fun a l => ?_) (fun l k => ?_) i k
  · refine ⟨?_, ?_, ?_, ?_, ?_, ?_, ?_, ?_⟩
    all_goals exact chunk_ld_apply (n := 256) (e := .bf16) (iblk m c 0 t) _ _ a l _
  · refine ⟨?_, ?_, ?_, ?_, ?_, ?_, ?_, ?_⟩
    all_goals exact rows_ld_apply (e := .bf16) (leftT m c t) _ _ l k _

/-- At point 0: the projector as the kernel keeps it. -/
theorem p_A (c : Dev nD) (t : Fin cfg0.N) (h : t.val % 57 = 0) (k : Fin 512) (d : Fin 4096) :
    (outsAt0 m c t.val t.isLt).2.2.2.2.2.2.2.1 (ix2 k d) = projector (fun k j => iblk m c 2 t (ix2 k j)) (fun g k => iblk m c 3 t (ix2 g k)) k d := by
  rw [outsAt0_A m c t h]
  frame_out
  canon_tiles x h
  all_goals
    refine p_piece (C := iblk m c 2 t) (iblk m c 3 t) ?_ ?_ ?_ x k d h0 ?_
    all_goals first | exact isGroup_ld _ _ _ _ rfl | exact h1.trans (by omega) | decide

/-- At point 0: the transposed projector. -/
theorem pt_A (c : Dev nD) (t : Fin cfg0.N) (h : t.val % 57 = 0) (k : Fin 512) (d : Fin 4096) :
    (outsAt0 m c t.val t.isLt).2.2.2.2.2.2.2.2.1 (ix2 d k) = projector (fun k j => iblk m c 2 t (ix2 k j)) (fun g k => iblk m c 3 t (ix2 g k)) k d := by
  rw [outsAt0_A m c t h]
  frame_out
  canon_tiles x h
  all_goals
    refine pt_piece (C := iblk m c 2 t) (iblk m c 3 t) ?_ ?_ ?_ x k d ?_ h1
    all_goals first | exact isGroup_ld _ _ _ _ rfl | exact h0.trans (by omega) | decide

/-- At point 0: the projected gradient that the point leaves. -/
theorem proj_A (c : Dev nD) (t : Fin cfg0.N) (h : t.val % 57 = 0) (i : Fin 256) (k : Fin 512) :
    (outsAt0 m c t.val t.isLt).2.2.2.2.2.2.2.2.2 (ix2 i k)
      = projected (fun a => iblk m c 1 t (ix2 a i)) (fun a d => iblk m c 0 t (ix2 a d))
          (fun k d => projector (fun k j => iblk m c 2 t (ix2 k j)) (fun g k => iblk m c 3 t (ix2 g k)) k d) k := by
  rw [outsAt0_A m c t h]
  frame_out
  refine projAllT_apply (iblk m c 1 t) _ _ _ _ _ _ _ _ _ _ _ _ _ _ _ _ (fun a d => iblk m c 0 t (ix2 a d))
    (fun k d => projector (fun k j => iblk m c 2 t (ix2 k j)) (fun g k => iblk m c 3 t (ix2 g k)) k d) (fun a l => ?_) (fun l k => ?_) i k
  · refine ⟨?_, ?_, ?_, ?_, ?_, ?_, ?_, ?_⟩
    all_goals exact chunk_ld_apply (n := 256) (e := .bf16) (iblk m c 0 t) _ _ a l _
  · refine ⟨?_, ?_, ?_, ?_, ?_, ?_, ?_, ?_⟩
    all_goals
      refine (readCov_rows _ _ _ _ l k (by omega)).trans ?_
      canon_tiles x h
      all_goals
        refine pt_piece (C := iblk m c 2 t) (iblk m c 3 t) ?_ ?_ ?_ x k _ ?_ h1
        all_goals first | exact isGroup_ld _ _ _ _ rfl | exact h0.trans (by omega) | decide

end Cert.KernelIdeal.Block
end
-- ==== Proof.Laws.lean ====
module

public import proofs.«01_k».proof.Proof.Spec
public import Idealize.ShloMosaic.Lib.IdealHost

/-!
Laws of the row functions: where the two programs spell one number in two ways.
-/

@[expose] public section

noncomputable section

namespace Cert.Step

open Idealize.ShloMosaic

/-- 127 is not zero. -/
theorem c127 : K 0x42FE0000#32 = ((127 : ℝ) : EReal) := by
  simp [Ideal.ofBits, Ideal.ieee, -EReal.coe_mul]; norm_num

/-- A scale is never zero. -/
theorem scaleOf_ne_zero (a : EReal) : scaleOf a ≠ 0 := by
  unfold scaleOf
  split
  · exact one_ne_zero
  · rename_i h
    rw [c127, Ideal.div, if_neg (by norm_num), ← EReal.coe_inv]
    exact mul_ne_zero h (by norm_num)

/-- Dividing by a number that is not zero is multiplying by 1 divided by it. -/
theorem mul_div_one (v s : EReal) (h : s ≠ 0) : v * Ideal.div 1 s = Ideal.div v s := by
  rw [Ideal.div, Ideal.div, if_neg h, if_neg h, one_mul]

/-- A byte made directly, or through 32 bits, from a clipped number. -/
theorem clip_word (x : EReal) :
    BitVec.setWidth 8 (FloatOps.fptosi (F := Ideal) (φ := .f32) 32 (min (num 127#32) (max (num 4294967169#32) x))) = clipByte x := by
  have hlo : num 4294967169#32 = ((-127 : ℝ) : EReal) := by
    show (((4294967169#32 : BitVec 32).toInt : ℝ) : EReal) = _
    rw [show (4294967169#32 : BitVec 32).toInt = -127 by decide]; norm_num
  have hhi : num 127#32 = ((127 : ℝ) : EReal) := by
    show (((127#32 : BitVec 32).toInt : ℝ) : EReal) = _
    rw [show (127#32 : BitVec 32).toInt = 127 by decide]; norm_num
  have hr : ∃ r : ℝ, min (num 127#32) (max (num 4294967169#32) x) = (r : EReal) ∧ -127 ≤ r ∧ r ≤ 127 := by
    rw [hlo, hhi]
    induction x with
    | bot => exact ⟨-127, by rw [max_eq_left bot_le, min_eq_right (EReal.coe_le_coe_iff.mpr (by norm_num))], by norm_num, by norm_num⟩
    | top => exact ⟨127, by rw [max_eq_right le_top, min_eq_left le_top], by norm_num, by norm_num⟩
    | coe r => exact ⟨min 127 (max (-127) r), by
        rw [EReal.coe_strictMono.monotone.map_min, EReal.coe_strictMono.monotone.map_max], by simp, by simp⟩
  obtain ⟨r, e, h1, h2⟩ := hr
  unfold clipByte toByte
  rw [e]
  show BitVec.setWidth 8 (BitVec.ofInt 32 (max _ (min _ (if 0 ≤ r then ⌊r⌋ else ⌈r⌉)))) = BitVec.ofInt 8 (max _ (min _ (if 0 ≤ r then ⌊r⌋ else ⌈r⌉)))
  have hz : -127 ≤ (if 0 ≤ r then ⌊r⌋ else ⌈r⌉) ∧ (if 0 ≤ r then ⌊r⌋ else ⌈r⌉) ≤ 127 := by
    split
    · exact ⟨Int.le_floor.mpr (by push_cast; linarith), by have := Int.floor_le r; exact_mod_cast this.trans h2⟩
    · exact ⟨by have := Int.le_ceil r; exact_mod_cast h1.trans this, Int.ceil_le.mpr (by push_cast; linarith)⟩
  generalize (if 0 ≤ r then ⌊r⌋ else ⌈r⌉) = z at hz
  obtain ⟨a, b⟩ := hz
  rw [show max (-((2 ^ (32 - 1) : ℕ) : ℤ)) (min (((2 ^ (32 - 1) : ℕ) : ℤ) - 1) z) = z by norm_num; omega,
    show max (-((2 ^ (8 - 1) : ℕ) : ℤ)) (min (((2 ^ (8 - 1) : ℕ) : ℤ) - 1) z) = z by norm_num; omega]
  apply BitVec.eq_of_toNat_eq
  simp only [BitVec.toNat_setWidth, BitVec.toNat_ofInt]
  omega

/-- The reference's rounding of a group of the moments, as the kernel writes it. -/
theorem codeOf_div (v a : EReal) : codeOf v (scaleOf a) = clipByte (Ideal.liftRound Ideal.roundHalfEven (Ideal.div v (scaleOf a))) := by
  rw [codeOf, mul_div_one _ _ (scaleOf_ne_zero a)]

/-- The new weight code as the reference takes it: (code · scale − change) / scale + draw is (code + draw) − change · (1 / scale)
    when the scale is a number other than zero. -/
theorem newWeight_div (w u : BitVec 8) (delta s : EReal) (h0 : s ≠ 0) (ht : s ≠ ⊤) (hb : s ≠ ⊥) :
    clipByte (Ideal.liftRound (fun x => ⌊x⌋)
      (Ideal.div (num (w.signExtend 32) * s - delta) s + num (u.zeroExtend 32) * K 0x3B800000#32)) = newWeight w u delta s := by
  unfold newWeight
  refine congrArg (fun x => clipByte (Ideal.liftRound (fun x => ⌊x⌋) x)) ?_
  obtain ⟨k, hk⟩ : ∃ k : ℝ, K 0x3B800000#32 = (k : EReal) := by
    refine ⟨1 / 256, ?_⟩
    simp [Ideal.ofBits, Ideal.ieee, -EReal.coe_mul]; norm_num
  lift s to ℝ using ⟨ht, hb⟩
  have hs : s ≠ 0 := by simpa using h0
  rw [hk, Ideal.div, Ideal.div, if_neg h0, if_neg h0, one_mul, ← EReal.coe_inv]
  unfold num
  induction delta with
  | coe d =>
    norm_cast
    field_simp
    ring
  | top =>
    rw [EReal.sub_top, ← EReal.coe_mul]
    rcases lt_or_gt_of_ne hs with h | h
    · rw [EReal.bot_mul_coe_of_neg (inv_lt_zero.mpr h), EReal.top_mul_coe_of_neg (inv_lt_zero.mpr h)]
      rfl
    · rw [EReal.bot_mul_coe_of_pos (inv_pos.mpr h), EReal.top_mul_coe_of_pos (inv_pos.mpr h)]
      rfl
  | bot =>
    rw [← EReal.coe_mul, ← EReal.coe_mul, ← EReal.coe_add, EReal.coe_sub_bot]
    rcases lt_or_gt_of_ne hs with h | h
    · rw [EReal.bot_mul_coe_of_neg (inv_lt_zero.mpr h), EReal.top_mul_coe_of_neg (inv_lt_zero.mpr h)]
      rfl
    · rw [EReal.bot_mul_coe_of_pos (inv_pos.mpr h), EReal.top_mul_coe_of_pos (inv_pos.mpr h)]
      rfl

/-- A low nibble's sign by comparison is its sign by shifts, in all 256 cases. -/
theorem low_word (v : BitVec 8) :
    Scalar.select (IntOp.cmpi CmpIPredicate.sge (IntOp.andi (BitVec.setWidth 32 v) 15#32) 8#32)
      (IntOp.subi (IntOp.andi (BitVec.setWidth 32 v) 15#32) 16#32) (IntOp.andi (BitVec.setWidth 32 v) 15#32)
    = ((v.zeroExtend 32) <<< 28).sshiftRight 28 := by
  revert v; decide +kernel

/-- A high nibble's sign by comparison is its sign by shifts, in all 256 cases. -/
theorem high_word (v : BitVec 8) :
    Scalar.select (IntOp.cmpi CmpIPredicate.sge (IntOp.shrsi ArithUnit.host (BitVec.setWidth 32 v) 4#32) 8#32)
      (IntOp.subi (IntOp.shrsi ArithUnit.host (BitVec.setWidth 32 v) 4#32) 16#32) (IntOp.shrsi ArithUnit.host (BitVec.setWidth 32 v) 4#32)
    = ((v.zeroExtend 32) <<< 24).sshiftRight 28 := by
  revert v; decide +kernel

end Cert.Step

end
-- ==== Proof.RefRows.lean ====
module

public import proofs.«01_k».proof.Proof.Gen.ReferenceIdeal.Read
public import proofs.«01_k».proof.Proof.Laws
public import Idealize.ShloMosaic.Lib.Pipeline.ValueKit

/-!
The reference's values, operation by operation, are the row functions of `Spec.lean`.
-/

@[expose] public section

set_option maxRecDepth 16384

noncomputable section

namespace Cert.RefRows

open Cert.ReferenceIdeal Cert.ReferenceIdeal.Gen Cert.ReferenceIdeal.Read Cert.Step
open Idealize.ShloMosaic Idealize.ShloMosaic.TcCoe

variable (x0 : (⟨S2x128x4096, .bf16⟩ : BufTy).Contents (Elt Ideal)) (x1 : (⟨S2x128x14336, .bf16⟩ : BufTy).Contents (Elt Ideal))
  (x2 : (⟨S512x2048, .i8⟩ : BufTy).Contents (Elt Ideal)) (x3 : (⟨S512x16, .f32⟩ : BufTy).Contents (Elt Ideal))
  (x4 : (⟨S14336x512, .i8⟩ : BufTy).Contents (Elt Ideal)) (x5 : (⟨S14336x4, .f32⟩ : BufTy).Contents (Elt Ideal))
  (x6 : (⟨S14336x512, .i8⟩ : BufTy).Contents (Elt Ideal)) (x7 : (⟨S14336x4, .f32⟩ : BufTy).Contents (Elt Ideal))
  (x8 : (⟨S14336x4096, .i8⟩ : BufTy).Contents (Elt Ideal)) (x9 : (⟨S14336, .f32⟩ : BufTy).Contents (Elt Ideal))
  (x10 : (⟨S14336x4096, .i8⟩ : BufTy).Contents (Elt Ideal))

/-- The projector of the arguments. -/
def proj : Fin 512 → Fin 4096 → EReal := projector (fun k j => x2 (ix2 k j)) (fun g k => x3 (ix2 k g))

/-- The projected gradient of row o. -/
def grad (o : Fin 14336) : Fin 512 → EReal :=
  projected (fun t => x1 (ix3 ⟨t / 128, by omega⟩ ⟨t % 128, by omega⟩ o))
    (fun t d => x0 (ix3 ⟨t / 128, by omega⟩ ⟨t % 128, by omega⟩ d)) (proj x2 x3)

/-- The first moments of row o. -/
def mom1 (o : Fin 14336) : Fin 512 → EReal :=
  rowMoment1 (grad x0 x1 x2 x3 o) (fun g => x5 (ix2 o g)) (fun k => x4 (ix2 o k))

/-- The second moments of row o. -/
def mom2 (o : Fin 14336) : Fin 512 → EReal :=
  rowMoment2 (grad x0 x1 x2 x3 o) (fun g => x7 (ix2 o g)) (fun k => x6 (ix2 o k))

/-- The direction of row o. -/
def dir (o : Fin 14336) : Fin 512 → EReal := fun k =>
  direction (mom1 x0 x1 x2 x3 x4 x5 o k) (mom2 x0 x1 x2 x3 x6 x7 o k)

/-- The change of row o. -/
def change (o : Fin 14336) : Fin 4096 → EReal :=
  rowDelta (dir x0 x1 x2 x3 x4 x5 x6 x7 o) (proj x2 x3)

/-- The even columns of the projector before they are interleaved: a low nibble times its group's scale. -/
theorem low_apply (k : Fin 512) (j : Fin 2048) :
    val_main_v15 (F := Ideal) x2 x3 (ix2 k j) = lowNibble (x2 (ix2 k j)) * x3 (ix2 k ⟨j / 128, by omega⟩) := by
  pointwise [val_main_v15, val_main_v14, val_main_v13, val_main_v12, val_main_v11, val_main_v10, val_main_v9, val_main_v8, val_main_v7,
    val_main_v6, val_main_v5, val_main_v4, val_main_v3, val_main_v2, val_main_c, val_main_c_0, val_main_c_1]
  rw [low_word]
  rfl

/-- The odd columns of the projector before they are interleaved: a high nibble times its group's scale. -/
theorem high_apply (k : Fin 512) (j : Fin 2048) :
    val_main_v25 (F := Ideal) x2 x3 (ix2 k j) = highNibble (x2 (ix2 k j)) * x3 (ix2 k ⟨j / 128, by omega⟩) := by
  pointwise [val_main_v25, val_main_v24, val_main_v23, val_main_v22, val_main_v21, val_main_v20, val_main_v19, val_main_v18, val_main_v17,
    val_main_v16, val_main_v5, val_main_v4, val_main_v3, val_main_v2, val_main_c_2, val_main_c_3, val_main_c_4]
  rw [high_word]
  rfl

/-- The projector in an even column is the low half's entry. -/
theorem proj_even (k : Fin 512) (j : Fin 2048) :
    proj x2 x3 k ⟨2 * j, by omega⟩ = val_main_v15 (F := Ideal) x2 x3 (ix2 k j) := by
  rw [low_apply]
  unfold proj projector
  have e1 : (⟨2 * (j : ℕ) / 2, by omega⟩ : Fin 2048) = j := Fin.ext (by dsimp only; omega)
  have e2 : (⟨2 * (j : ℕ) / 256, by omega⟩ : Fin 16) = ⟨j / 128, by omega⟩ := Fin.ext (by dsimp only; omega)
  dsimp only
  rw [if_pos (by omega), e1, e2]

/-- The projector in an odd column is the high half's entry. -/
theorem proj_odd (k : Fin 512) (j : Fin 2048) :
    proj x2 x3 k ⟨2 * j + 1, by omega⟩ = val_main_v25 (F := Ideal) x2 x3 (ix2 k j) := by
  rw [high_apply]
  unfold proj projector
  have e1 : (⟨(2 * (j : ℕ) + 1) / 2, by omega⟩ : Fin 2048) = j := Fin.ext (by dsimp only; omega)
  have e2 : (⟨(2 * (j : ℕ) + 1) / 256, by omega⟩ : Fin 16) = ⟨j / 128, by omega⟩ := Fin.ext (by dsimp only; omega)
  dsimp only
  rw [if_neg (by omega), e1, e2]

/-- The full gradient of a row: the sum over the 256 tokens of output gradient times activation. -/
theorem full_apply (o : Fin 14336) (d : Fin 4096) :
    val_main_v1 (F := Ideal) x0 x1 (ix2 o d) = ∑ t : Fin 256, x1 (ix3 ⟨t / 128, by omega⟩ ⟨t % 128, by omega⟩ o) * x0 (ix3 ⟨t / 128, by omega⟩ ⟨t % 128, by omega⟩ d) := by
  pointwise [val_main_v1, val_main_v0]
  rw [sum_runs 2 128 256 rfl]
  refine Finset.sum_congr rfl fun a _ => Finset.sum_congr rfl fun b _ => ?_
  congr 3 <;> (ext; dsimp only; omega)

/-- The reference's projected gradient, a sum over even and one over odd columns, is the projected gradient of the row. -/
theorem grad_apply (o : Fin 14336) (k : Fin 512) :
    val_main_v30 (F := Ideal) x0 x1 x2 x3 (ix2 o k) = grad x0 x1 x2 x3 o k := by
  pointwise [val_main_v30, val_main_v29, val_main_v28, val_main_v27, val_main_v26]
  unfold grad projected
  rw [sum_evenOdd]
  simp only [proj_even, proj_odd, full_apply]
  simp only [add_comm 1]

/-- The reference's new first moment is that of the row. -/
theorem mom1_apply (o : Fin 14336) (k : Fin 512) :
    val_main_v45 (F := Ideal) x0 x1 x2 x3 x4 x5 (ix2 o k) = mom1 x0 x1 x2 x3 x4 x5 o k := by
  pointwise [val_main_v45, val_main_v44, val_main_v43, val_main_v42, val_main_v41, val_main_v35, val_main_v34, val_main_v33, val_main_v32,
    val_main_v31, val_main_cst, val_main_cst_5]
  rw [grad_apply]
  rfl

/-- The reference's new second moment is that of the row. -/
theorem mom2_apply (o : Fin 14336) (k : Fin 512) :
    val_main_v51 (F := Ideal) x0 x1 x2 x3 x6 x7 (ix2 o k) = mom2 x0 x1 x2 x3 x6 x7 o k := by
  pointwise [val_main_v51, val_main_v50, val_main_v49, val_main_v48, val_main_v47, val_main_v46, val_main_v40, val_main_v39, val_main_v38,
    val_main_v37, val_main_v36, val_main_cst_6, val_main_cst_7]
  rw [grad_apply]
  rfl

/-- The reference's direction is that of the row. -/
theorem dir_apply (o : Fin 14336) (k : Fin 512) :
    val_main_v59 (F := Ideal) x0 x1 x2 x3 x4 x5 x6 x7 (ix2 o k) = dir x0 x1 x2 x3 x4 x5 x6 x7 o k := by
  pointwise [val_main_v59, val_main_v58, val_main_v57, val_main_v56, val_main_v55, val_main_v54, val_main_v53, val_main_v52,
    val_main_cst_8, val_main_cst_9, val_main_cst_10]
  rw [mom1_apply, mom2_apply]
  rfl

/-! ## The quantiser of the moments -/

/-- The largest magnitudes of the groups. -/
def amaxR (X : FVec Ideal S14336x512 .f32) : FVec Ideal S14336x4 .f32 :=
  Host.reduce FloatOps.maximumf (Host.absf (shapeCast S14336x4x128 X shapeCasts_S14336x512_S14336x4x128)) (constant S_ .f32 0xFF800000#32)
    reducesTo_S14336x4x128_S14336x4_d2 h_S_

/-- The scales, given the largest magnitudes. -/
def scaleR (A : FVec Ideal S14336x4 .f32) : FVec Ideal S14336x4 .f32 :=
  select (cmpf .oeq A (broadcastInDim S14336x4 ![] bcast_S_S14336x4 (constant S_ .f32 0x00000000#32)))
    (broadcastInDim S14336x4 ![] bcast_S_S14336x4 (constant S_ .f32 0x3F800000#32))
    (Host.divf A (broadcastInDim S14336x4 ![] bcast_S_S14336x4 (constant S_ .f32 0x42FE0000#32)))

/-- The codes, given the scales. -/
def codesR (X : FVec Ideal S14336x512 .f32) (s : FVec Ideal S14336x4 .f32) : IVec S14336x512 8 :=
  shapeCast S14336x512 (trunci 8 (fptosi 32 (minimumf (broadcastInDim S14336x4x128 ![] bcast_S_S14336x4x128 (sitofp (F := Ideal) .f32 (constantI S_ 32 127#32)))
    (maximumf (broadcastInDim S14336x4x128 ![] bcast_S_S14336x4x128 (sitofp (F := Ideal) .f32 (constantI S_ 32 4294967169#32)))
      (Host.roundeven (Host.divf (shapeCast S14336x4x128 X shapeCasts_S14336x512_S14336x4x128)
        (broadcastInDim S14336x4x128 ![0, 1, 2] bcast_S14336x4x1_S14336x4x128_0_1_2 (broadcastInDim S14336x4x1 ![0, 1] bcast_S14336x4_S14336x4x1_0_1 s)))))))
    natLt_8_32) shapeCasts_S14336x4x128_S14336x512

/-- A maximum along the last axis. -/
theorem row_max (Y : FVec Ideal S14336x4x128 .f32) (o : Fin 14336) (g : Fin 4) :
    Host.reduce FloatOps.maximumf Y (constant S_ .f32 0xFF800000#32) reducesTo_S14336x4x128_S14336x4_d2 h_S_ (ix2 o g)
      = Finset.fold max (K 0xFF800000#32) (fun l => Y (ix3 o g l)) Finset.univ := by
  pointwise

/-- The largest magnitude of a group, read at an index. -/
theorem amaxR_apply (X : FVec Ideal S14336x512 .f32) (o : Fin 14336) (g : Fin 4) :
    amaxR X (ix2 o g) = largest fun l => X (ix2 o ⟨128 * g + l, by omega⟩) := by
  unfold amaxR
  rw [row_max]
  unfold largest
  refine congrArg (fun f => Finset.fold max _ f Finset.univ) (funext fun l => ?_)
  pointwise
  simp only [Nat.mul_comm]

/-- A scale, read at an index, from its group's largest magnitude. -/
theorem scaleR_apply (A : FVec Ideal S14336x4 .f32) (o : Fin 14336) (g : Fin 4) : scaleR A (ix2 o g) = scaleOf (A (ix2 o g)) := by
  pointwise [scaleR]
  rfl

/-- A code, read at an index: the quotient by the group's scale, rounded and clipped. -/
theorem codesR_apply (X : FVec Ideal S14336x512 .f32) (s : FVec Ideal S14336x4 .f32) (o : Fin 14336) (k : Fin 512) :
    codesR X s (ix2 o k) = clipByte (Ideal.liftRound Ideal.roundHalfEven (Ideal.div (X (ix2 o k)) (s (ix2 o ⟨k / 128, by omega⟩)))) := by
  rw [← clip_word]
  pointwise [codesR]
  rfl

/-- The scale of a group as the reference takes it. -/
theorem rowScale_eq (X : FVec Ideal S14336x512 .f32) (o : Fin 14336) (g : Fin 4) :
    scaleR (amaxR X) (ix2 o g) = rowScale (fun k => X (ix2 o k)) g := by
  rw [scaleR_apply, amaxR_apply, rowScale]

/-- The code of a moment as the reference takes it. -/
theorem rowCode_eq (X : FVec Ideal S14336x512 .f32) (o : Fin 14336) (k : Fin 512) :
    codesR X (scaleR (amaxR X)) (ix2 o k) = rowCode (fun k => X (ix2 o k)) k := by
  rw [codesR_apply, scaleR_apply, rowCode, rowScale, amaxR_apply, codeOf_div]

/-- The reference's first moment's scales are those of the row. -/
theorem scale1_apply (o : Fin 14336) (g : Fin 4) :
    val_main_v67 (F := Ideal) x0 x1 x2 x3 x4 x5 (ix2 o g) = rowScale (mom1 x0 x1 x2 x3 x4 x5 o) g := by
  have e : val_main_v67 (F := Ideal) x0 x1 x2 x3 x4 x5 = scaleR (amaxR (val_main_v45 (F := Ideal) x0 x1 x2 x3 x4 x5)) := rfl
  rw [e, rowScale_eq]
  simp only [mom1_apply]

/-- The reference's second moment's scales are those of the row. -/
theorem scale2_apply (o : Fin 14336) (g : Fin 4) :
    val_main_v83 (F := Ideal) x0 x1 x2 x3 x6 x7 (ix2 o g) = rowScale (mom2 x0 x1 x2 x3 x6 x7 o) g := by
  have e : val_main_v83 (F := Ideal) x0 x1 x2 x3 x6 x7 = scaleR (amaxR (val_main_v51 (F := Ideal) x0 x1 x2 x3 x6 x7)) := rfl
  rw [e, rowScale_eq]
  simp only [mom2_apply]

/-- The first moment's scales, transposed. -/
theorem scale1T_apply (g : Fin 4) (o : Fin 14336) :
    val_main_v119 (F := Ideal) x0 x1 x2 x3 x4 x5 (ix2 g o) = rowScale (mom1 x0 x1 x2 x3 x4 x5 o) g := by
  pointwise [val_main_v119]
  exact scale1_apply x0 x1 x2 x3 x4 x5 o g

/-- The second moment's scales, transposed. -/
theorem scale2T_apply (g : Fin 4) (o : Fin 14336) :
    val_main_v120 (F := Ideal) x0 x1 x2 x3 x6 x7 (ix2 g o) = rowScale (mom2 x0 x1 x2 x3 x6 x7 o) g := by
  pointwise [val_main_v120]
  exact scale2_apply x0 x1 x2 x3 x6 x7 o g

/-- The reference's first moment's codes are those of the row. -/
theorem code1_apply (o : Fin 14336) (k : Fin 512) :
    val_main_v75 (F := Ideal) x0 x1 x2 x3 x4 x5 (ix2 o k) = rowCode (mom1 x0 x1 x2 x3 x4 x5 o) k := by
  have e : val_main_v75 (F := Ideal) x0 x1 x2 x3 x4 x5 = codesR (val_main_v45 (F := Ideal) x0 x1 x2 x3 x4 x5) (scaleR (amaxR (val_main_v45 (F := Ideal) x0 x1 x2 x3 x4 x5))) := rfl
  rw [e, rowCode_eq]
  simp only [mom1_apply]

/-- The reference's second moment's codes are those of the row. -/
theorem code2_apply (o : Fin 14336) (k : Fin 512) :
    val_main_v91 (F := Ideal) x0 x1 x2 x3 x6 x7 (ix2 o k) = rowCode (mom2 x0 x1 x2 x3 x6 x7 o) k := by
  have e : val_main_v91 (F := Ideal) x0 x1 x2 x3 x6 x7 = codesR (val_main_v51 (F := Ideal) x0 x1 x2 x3 x6 x7) (scaleR (amaxR (val_main_v51 (F := Ideal) x0 x1 x2 x3 x6 x7))) := rfl
  rw [e, rowCode_eq]
  simp only [mom2_apply]

/-! ## The change and the weights -/

/-- The reference's change of a weight is that of the row. -/
theorem change_apply (o : Fin 14336) (d : Fin 4096) :
    val_main_v100 (F := Ideal) x0 x1 x2 x3 x4 x5 x6 x7 (ix2 o d) = change x0 x1 x2 x3 x4 x5 x6 x7 o d := by
  pointwise [val_main_v100, val_main_v99, val_main_v98, val_main_v97, val_main_v96, val_main_v95, val_main_v94, val_main_v93, val_main_v92, val_main_cst_23]
  unfold change rowDelta
  refine congrArg _ ?_
  simp only [dir_apply]
  split
  · refine Finset.sum_congr rfl fun k _ => congrArg _ ?_
    rw [← proj_even]
    congr 1; ext; dsimp only; omega
  · refine Finset.sum_congr rfl fun k _ => congrArg _ ?_
    rw [← proj_odd]
    congr 1; ext; dsimp only; omega

/-- The reference's new weight code, on a row whose scale is neither zero nor infinite, is that of the kernel's form. -/
theorem weight_apply (o : Fin 14336) (d : Fin 4096) (h0 : x9 (ix1 o) ≠ 0) (ht : x9 (ix1 o) ≠ ⊤) (hb : x9 (ix1 o) ≠ ⊥) :
    val_main_v118 (F := Ideal) x0 x1 x2 x3 x4 x5 x6 x7 x8 x9 x10 (ix2 o d)
      = newWeight (x8 (ix2 o d)) (x10 (ix2 o d)) (change x0 x1 x2 x3 x4 x5 x6 x7 o d) (x9 (ix1 o)) := by
  rw [← newWeight_div _ _ _ _ h0 ht hb, ← clip_word, ← change_apply]
  pointwise [val_main_v118, val_main_v117, val_main_v116, val_main_call8_v4, val_main_call8_v3, val_main_call8_v2, val_main_call8_v1, val_main_call8_v0,
    val_main_v115, val_main_v114, val_main_v113, val_main_v112, val_main_v111, val_main_v110,
    val_main_v109, val_main_v108, val_main_v107, val_main_v106, val_main_v105, val_main_v104, val_main_v103, val_main_v102, val_main_v101, val_main_cst_24, val_main_c_25, val_main_c_26]
  rfl

end Cert.RefRows

end
-- ==== Proof.Carried.lean ====
module

public import proofs.«01_k».proof.Proof.Blocks
public import proofs.«01_k».proof.Proof.PointCarried
public import proofs.«01_k».proof.Proof.RefRows

/-!
The scratch arrays after every point, by induction over the points: the projector, its transpose and the projected
gradient of the block of rows that the next point updates.
-/

@[expose] public section

set_option maxRecDepth 16384

noncomputable section

namespace Cert.KernelIdeal.Block

open Cert.KernelIdeal Cert.KernelIdeal.Gen Cert.Step
open Idealize.ShloMosaic Idealize.ShloMosaic.TcCoe

variable (m : (ℓ : Loc nD τ sig) → Buf (Elt Ideal) ℓ) (c : Dev nD)

/-- The projector of the kernel's arguments. -/
def proj : Fin 512 → Fin 4096 → EReal :=
  RefRows.proj (m ((c : Thread nD τ).loc main_arg2)) (m ((c : Thread nD τ).loc main_arg3))

/-- The projected gradient of row o of the kernel's arguments. -/
def grad (o : Fin 14336) : Fin 512 → EReal :=
  RefRows.grad (m ((c : Thread nD τ).loc main_arg0)) (m ((c : Thread nD τ).loc main_arg1))
    (m ((c : Thread nD τ).loc main_arg2)) (m ((c : Thread nD τ).loc main_arg3)) o

/-- The row whose gradient point n takes as row i of its block. -/
def col (n : ℕ) (i : Fin 256) : Fin 14336 := ⟨256 * min n 55 + i.val, by omega⟩

/-- The projector as a point finds it in its blocks. -/
theorem projector_blk (t : Fin cfg0.N) (k : Fin 512) (d : Fin 4096) :
    projector (fun k j => iblk m c 2 t (ix2 k j)) (fun g k => iblk m c 3 t (ix2 g k)) k d = proj m c k d := by
  have e2 : (fun (k : Fin 512) (j : Fin 2048) => iblk m c 2 t (ix2 k j)) = fun k j => m ((c : Thread nD τ).loc main_arg2) (ix2 k j) :=
    funext fun k => funext fun j => iblk2 m c t k j
  have e3 : (fun (g : Fin 16) (k : Fin 512) => iblk m c 3 t (ix2 g k)) = fun g k => m ((c : Thread nD τ).loc main_arg3) (ix2 k g) :=
    funext fun g => funext fun k => iblk3 m c t g k
  rw [e2, e3]
  rfl

/-- The projected gradient as a point takes it from its blocks and a projector. -/
theorem projected_blk (t : Fin cfg0.N) (i : Fin 256) (k : Fin 512) (p : Fin 512 → Fin 4096 → EReal) (hp : ∀ k d, p k d = proj m c k d) :
    projected (fun a => iblk m c 1 t (ix2 a i)) (fun a d => iblk m c 0 t (ix2 a d)) p k = grad m c (col t.val i) k := by
  obtain rfl : p = proj m c := funext fun k => funext fun d => hp k d
  unfold projected grad RefRows.grad
  simp only [iblk0, iblk1]
  rfl

/-- After every point the scratch arrays hold the projector, its transpose, and the projected gradient of a block of rows. -/
theorem carried (n : ℕ) (hn : n < cfg0.N) :
    (∀ k d, (outsAt0 m c n hn).2.2.2.2.2.2.2.1 (ix2 k d) = proj m c k d)
    ∧ (∀ d k, (outsAt0 m c n hn).2.2.2.2.2.2.2.2.1 (ix2 d k) = proj m c k d)
    ∧ ∀ i k, (outsAt0 m c n hn).2.2.2.2.2.2.2.2.2 (ix2 i k) = grad m c (col n i) k := by
  induction n with
  | zero =>
    exact ⟨fun k d => (p_A m c ⟨0, hn⟩ rfl k d).trans (projector_blk m c ⟨0, hn⟩ k d),
      fun d k => (pt_A m c ⟨0, hn⟩ rfl k d).trans (projector_blk m c ⟨0, hn⟩ k d),
      fun i k => (proj_A m c ⟨0, hn⟩ rfl i k).trans (projected_blk m c ⟨0, hn⟩ i k _ (projector_blk m c ⟨0, hn⟩))⟩
  | succ n ih =>
    obtain ⟨i0, i1, _⟩ := ih (Nat.lt_of_succ_lt hn)
    have hB : ¬ (⟨n + 1, hn⟩ : Fin cfg0.N).val % 57 = 0 := by
      have h : n + 1 < 57 := Nat.lt_of_lt_of_eq hn N_eq
      show ¬ (n + 1) % 57 = 0
      omega
    obtain ⟨l0, l1⟩ := left_B m c ⟨n + 1, hn⟩ hB
    exact ⟨fun k d => (congrFun l0 (ix2 k d)).trans (i0 k d), fun d k => (congrFun l1 (ix2 d k)).trans (i1 d k),
      fun i k => (proj_B m c ⟨n + 1, hn⟩ hB i k).trans (projected_blk m c ⟨n + 1, hn⟩ i k _ fun k d => i1 d k)⟩

variable (t : Fin cfg0.N)

/-- A point finds the projected gradient of the rows that it updates. -/
theorem leftR_apply (h : ¬ t.val % 57 = 0) (i : Fin 256) (k : Fin 512) : leftR m c t (ix2 i k) = grad m c (row t i) k := by
  refine ((carried m c (t.val - 1) _).2.2 i k).trans ?_
  have e : col (t.val - 1) i = row t i := by
    have h : t.val < 57 := Nat.lt_of_lt_of_eq t.isLt N_eq
    refine Fin.ext ?_
    show 256 * min (t.val - 1) 55 + i.val = 256 * (t.val - 1) + i.val
    omega
  rw [e]

/-- A point finds the projector. -/
theorem leftP_apply (k : Fin 512) (d : Fin 4096) : leftP m c t (ix2 k d) = proj m c k d :=
  (carried m c (t.val - 1) _).1 k d

end Cert.KernelIdeal.Block
-- ==== Proof.PointMoments.lean ====
module

public import proofs.«01_k».proof.Proof.Left
public import proofs.«01_k».proof.Proof.Block
public import Idealize.ShloMosaic.Lib.Pipeline.ReadBack

/-!
Directions and codes that a point from 1 on writes.
-/

@[expose] public section

set_option maxRecDepth 16384

noncomputable section

namespace Cert.KernelIdeal.Block

open Cert.KernelIdeal Cert.KernelIdeal.Gen Cert.KernelIdeal.Tile Cert.Step
open Idealize.ShloMosaic Idealize.ShloMosaic.TcCoe

set_option maxHeartbeats 1000000

variable (m : (ℓ : Loc nD τ sig) → Buf (Elt Ideal) ℓ)

/-- From point 1 on: the directions that the point writes. -/
theorem n_B (c : Dev nD) (t : Fin cfg0.N) (h : ¬t.val % 57 = 0) (i : Fin 256) (k : Fin 512) :
    (outsAt0 m c t.val t.isLt).2.2.1 (ix2 i k) = dir (leftR m c t) (iblk m c 5 t) (iblk m c 4 t) (iblk m c 7 t) (iblk m c 6 t) i k := by
  rw [outsAt0_B m c t h]
  frame_out
  simp only [read_unread_whole]
  canon_tiles x h
  all_goals
    exact dir_piece (R := leftR m c t) (C := iblk m c 4 t) (C' := iblk m c 6 t) (iblk m c 5 t) (iblk m c 7 t) (by decide) x i k
      (isPiece_ld _ _ _ _ _ rfl) (isPiece_ld (e := .i8) _ _ _ _ _ rfl) (isPiece_ld (e := .i8) _ _ _ _ _ rfl) (h0.trans (by omega)) (h1.trans (by omega))

/-- From point 1 on: the codes of the first moments that the point writes. -/
theorem code1_B (c : Dev nD) (t : Fin cfg0.N) (h : ¬t.val % 57 = 0) (i : Fin 256) (k : Fin 512) :
    (outsAt0 m c t.val t.isLt).2.2.2.1 (ix2 i k) = rowCode (m1 (leftR m c t) (iblk m c 5 t) (iblk m c 4 t) i) k := by
  rw [outsAt0_B m c t h]
  frame_out
  simp only [read_unread_whole]
  canon_tiles x h
  all_goals
    exact code1_piece (R := leftR m c t) (C := iblk m c 4 t) (iblk m c 5 t) (by decide) x i k
      (isPiece_ld _ _ _ _ _ rfl) (isPiece_ld (e := .i8) _ _ _ _ _ rfl) (h0.trans (by omega)) (h1.trans (by omega))

/-- From point 1 on: the codes of the second moments that the point writes. -/
theorem code2_B (c : Dev nD) (t : Fin cfg0.N) (h : ¬t.val % 57 = 0) (i : Fin 256) (k : Fin 512) :
    (outsAt0 m c t.val t.isLt).2.2.2.2.2.1 (ix2 i k) = rowCode (m2 (leftR m c t) (iblk m c 7 t) (iblk m c 6 t) i) k := by
  rw [outsAt0_B m c t h]
  frame_out
  simp only [read_unread_whole]
  canon_tiles x h
  all_goals
    exact code2_piece (R := leftR m c t) (C := iblk m c 6 t) (iblk m c 7 t) (by decide) x i k
      (isPiece_ld _ _ _ _ _ rfl) (isPiece_ld (e := .i8) _ _ _ _ _ rfl) (h0.trans (by omega)) (h1.trans (by omega))

end Cert.KernelIdeal.Block
end
-- ==== Proof.PointScales.lean ====
module

public import proofs.«01_k».proof.Proof.Left
public import proofs.«01_k».proof.Proof.Block
public import Idealize.ShloMosaic.Lib.Pipeline.ReadBack

/-!
Scales that a point from 1 on writes.
-/

@[expose] public section

set_option maxRecDepth 16384

noncomputable section

namespace Cert.KernelIdeal.Block

open Cert.KernelIdeal Cert.KernelIdeal.Gen Cert.KernelIdeal.Tile Cert.Step
open Idealize.ShloMosaic Idealize.ShloMosaic.TcCoe

set_option maxHeartbeats 1000000

variable (m : (ℓ : Loc nD τ sig) → Buf (Elt Ideal) ℓ)

/-- From point 1 on: the scales of the first moments that the point writes. -/
theorem scale1_B (c : Dev nD) (t : Fin cfg0.N) (h : ¬t.val % 57 = 0) (i : Fin 256) (g : Fin 4) :
    (outsAt0 m c t.val t.isLt).2.2.2.2.1 (ix2 g i) = rowScale (m1 (leftR m c t) (iblk m c 5 t) (iblk m c 4 t) i) g := by
  rw [outsAt0_B m c t h]
  frame_out
  simp only [read_unread_whole]
  refine scalesT_apply _ _ _ _ _ _ _ _ (fun i g => rowScale (m1 (leftR m c t) (iblk m c 5 t) (iblk m c 4 t) i) g) (fun a g => ?_) i g
  refine ⟨?_, ?_, ?_, ?_, ?_, ?_, ?_, ?_⟩
  all_goals
    exact quad1_piece (leftR m c t) (iblk m c 4 t) (iblk m c 5 t) (by decide) (by decide) (by decide) (by decide) a g _ rfl
      (isPiece_ld _ _ _ _ _ rfl) (isPiece_ld _ _ _ _ _ rfl) (isPiece_ld _ _ _ _ _ rfl) (isPiece_ld _ _ _ _ _ rfl)
      (isPiece_ld (e := .i8) _ _ _ _ _ rfl) (isPiece_ld (e := .i8) _ _ _ _ _ rfl) (isPiece_ld (e := .i8) _ _ _ _ _ rfl) (isPiece_ld (e := .i8) _ _ _ _ _ rfl)

/-- From point 1 on: the scales of the second moments that the point writes. -/
theorem scale2_B (c : Dev nD) (t : Fin cfg0.N) (h : ¬t.val % 57 = 0) (i : Fin 256) (g : Fin 4) :
    (outsAt0 m c t.val t.isLt).2.2.2.2.2.2.1 (ix2 g i) = rowScale (m2 (leftR m c t) (iblk m c 7 t) (iblk m c 6 t) i) g := by
  rw [outsAt0_B m c t h]
  frame_out
  simp only [read_unread_whole]
  refine scalesT_apply _ _ _ _ _ _ _ _ (fun i g => rowScale (m2 (leftR m c t) (iblk m c 7 t) (iblk m c 6 t) i) g) (fun a g => ?_) i g
  refine ⟨?_, ?_, ?_, ?_, ?_, ?_, ?_, ?_⟩
  all_goals
    exact quad2_piece (leftR m c t) (iblk m c 6 t) (iblk m c 7 t) (by decide) (by decide) (by decide) (by decide) a g _ rfl
      (isPiece_ld _ _ _ _ _ rfl) (isPiece_ld _ _ _ _ _ rfl) (isPiece_ld _ _ _ _ _ rfl) (isPiece_ld _ _ _ _ _ rfl)
      (isPiece_ld (e := .i8) _ _ _ _ _ rfl) (isPiece_ld (e := .i8) _ _ _ _ _ rfl) (isPiece_ld (e := .i8) _ _ _ _ _ rfl) (isPiece_ld (e := .i8) _ _ _ _ _ rfl)

end Cert.KernelIdeal.Block
end
-- ==== Proof.PointWeights.lean ====
module

public import proofs.«01_k».proof.Proof.Left
public import proofs.«01_k».proof.Proof.Block
public import Idealize.ShloMosaic.Lib.Pipeline.ReadBack

/-!
The change of the weights and the new weight codes that a point from 1 on writes.
-/

@[expose] public section

set_option maxRecDepth 16384

noncomputable section

namespace Cert.KernelIdeal.Block

open Cert.KernelIdeal Cert.KernelIdeal.Gen Cert.KernelIdeal.Tile Cert.Step
open Idealize.ShloMosaic Idealize.ShloMosaic.TcCoe

set_option maxHeartbeats 1000000

variable (m : (ℓ : Loc nD τ sig) → Buf (Elt Ideal) ℓ)

/-- From point 1 on: the change of the weights that the point writes. -/
theorem delta_B (c : Dev nD) (t : Fin cfg0.N) (h : ¬t.val % 57 = 0) (i : Fin 256) (d : Fin 4096) :
    (outsAt0 m c t.val t.isLt).2.1 (ix2 i d)
      = rowDelta (dir (leftR m c t) (iblk m c 5 t) (iblk m c 4 t) (iblk m c 7 t) (iblk m c 6 t) i) (fun k d => leftP m c t (ix2 k d)) d := by
  rw [outsAt0_B m c t h]
  frame_out
  simp only [read_unread_whole]
  generalize hNB : View.readCov (Val := Elt Ideal) (View.whole cc0_scratch3) _ _ = NB
  have hn : ∀ i k, NB (ix2 i k) = dir (leftR m c t) (iblk m c 5 t) (iblk m c 4 t) (iblk m c 7 t) (iblk m c 6 t) i k := by
    intro i k
    rw [← hNB]
    refine (readCov_whole _ _ _ i k).trans ?_
    canon_tiles x h
    all_goals
      exact kept_piece (R := leftR m c t) (C := iblk m c 4 t) (C' := iblk m c 6 t) (iblk m c 5 t) (iblk m c 7 t) (by decide) x i k
        (isPiece_ld _ _ _ _ _ rfl) (isPiece_ld (e := .i8) _ _ _ _ _ rfl) (isPiece_ld (e := .i8) _ _ _ _ _ rfl) (h0.trans (by omega)) (h1.trans (by omega))
  clear hNB
  canon_tiles x h
  all_goals
    exact delta_chunk (leftP m c t) _ hn x i d (isChunk_ld _ _ _) h0 (h1.trans (by omega))

/-- From point 1 on: the new weight codes that the point writes. -/
theorem weight_B (c : Dev nD) (t : Fin cfg0.N) (h : ¬t.val % 57 = 0) (i : Fin 256) (d : Fin 4096) :
    (outsAt0 m c t.val t.isLt).1 (ix2 i d)
      = newWeight (iblk m c 8 t (ix2 i d)) (iblk m c 10 t (ix2 i d))
          (rowDelta (dir (leftR m c t) (iblk m c 5 t) (iblk m c 4 t) (iblk m c 7 t) (iblk m c 6 t) i) (fun k d => leftP m c t (ix2 k d)) d)
          (iblk m c 9 t (ix2 0 i)) := by
  rw [outsAt0_B m c t h]
  frame_out
  simp only [read_unread_whole]
  generalize hNB : View.readCov (Val := Elt Ideal) (View.whole cc0_scratch3) _ _ = NB
  have hn : ∀ i k, NB (ix2 i k) = dir (leftR m c t) (iblk m c 5 t) (iblk m c 4 t) (iblk m c 7 t) (iblk m c 6 t) i k := by
    intro i k
    rw [← hNB]
    refine (readCov_whole _ _ _ i k).trans ?_
    canon_tiles x h
    all_goals
      exact kept_piece (R := leftR m c t) (C := iblk m c 4 t) (C' := iblk m c 6 t) (iblk m c 5 t) (iblk m c 7 t) (by decide) x i k
        (isPiece_ld _ _ _ _ _ rfl) (isPiece_ld (e := .i8) _ _ _ _ _ rfl) (isPiece_ld (e := .i8) _ _ _ _ _ rfl) (h0.trans (by omega)) (h1.trans (by omega))
  clear hNB
  canon_tiles x h
  all_goals
    exact weight_chunk (leftP m c t) (iblk m c 10 t) (iblk m c 8 t) (iblk m c 9 t) _ hn x i d (isChunk_ld _ _ _) (isChunk_ld (e := .i8) _ _ _) (isChunk_ld (e := .i8) _ _ _)
      h0 (h1.trans (by omega))

end Cert.KernelIdeal.Block
end
-- ==== Proof.Rows.lean ====
module

public import proofs.«01_k».proof.Proof.Carried
public import proofs.«01_k».proof.Proof.PointMoments
public import proofs.«01_k».proof.Proof.PointScales
public import proofs.«01_k».proof.Proof.PointWeights

/-!
What a point from 1 on leaves in its output blocks, as the row functions of the kernel's arguments.
-/

@[expose] public section

set_option maxRecDepth 16384

noncomputable section

namespace Cert.KernelIdeal.Block

open Cert.KernelIdeal Cert.KernelIdeal.Gen Cert.Step
open Idealize.ShloMosaic Idealize.ShloMosaic.TcCoe

variable (m : (ℓ : Loc nD τ sig) → Buf (Elt Ideal) ℓ) (c : Dev nD)

/-- The first moments of row o of the kernel's arguments. -/
def mom1 (o : Fin 14336) : Fin 512 → EReal :=
  RefRows.mom1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) o

/-- The second moments of row o of the kernel's arguments. -/
def mom2 (o : Fin 14336) : Fin 512 → EReal :=
  RefRows.mom2 (m ((c : Thread nD τ).loc main_arg0)) (m ((c : Thread nD τ).loc main_arg1)) (m ((c : Thread nD τ).loc main_arg2))
    (m ((c : Thread nD τ).loc main_arg3)) (m ((c : Thread nD τ).loc main_arg6)) (m ((c : Thread nD τ).loc main_arg7)) o

/-- The direction of row o of the kernel's arguments. -/
def rowDir (o : Fin 14336) : Fin 512 → EReal := fun k => direction (mom1 m c o k) (mom2 m c o k)

/-- The change of row o of the kernel's arguments. -/
def change (o : Fin 14336) : Fin 4096 → EReal := rowDelta (rowDir m c o) (proj m c)

/-- The new weight code of row o and column d of the kernel's arguments. -/
def weight (o : Fin 14336) (d : Fin 4096) : BitVec 8 :=
  newWeight (m ((c : Thread nD τ).loc main_arg8) (ix2 o d)) (m ((c : Thread nD τ).loc main_arg10) (ix2 o d)) (change m c o d)
    (m ((c : Thread nD τ).loc main_arg9) (ix1 o))

variable (t : Fin cfg0.N) (h : ¬ t.val % 57 = 0)

include h

/-- The first moments of a block are those of its rows. -/
theorem m1_blk (i : Fin 256) : m1 (leftR m c t) (iblk m c 5 t) (iblk m c 4 t) i = mom1 m c (row t i) := by
  unfold m1 mom1 RefRows.mom1
  simp only [leftR_apply m c t h, iblk4, iblk5]
  rfl

/-- The second moments of a block are those of its rows. -/
theorem m2_blk (i : Fin 256) : m2 (leftR m c t) (iblk m c 7 t) (iblk m c 6 t) i = mom2 m c (row t i) := by
  unfold m2 mom2 RefRows.mom2
  simp only [leftR_apply m c t h, iblk6, iblk7]
  rfl

/-- The directions of a block are those of its rows. -/
theorem dir_blk (i : Fin 256) :
    dir (leftR m c t) (iblk m c 5 t) (iblk m c 4 t) (iblk m c 7 t) (iblk m c 6 t) i = rowDir m c (row t i) := by
  funext k
  unfold dir rowDir
  rw [m1_blk m c t h, m2_blk m c t h]

/-- The directions that a point writes. -/
theorem n_row (i : Fin 256) (k : Fin 512) : (outsAt0 m c t.val t.isLt).2.2.1 (ix2 i k) = rowDir m c (row t i) k := by
  rw [n_B m c t h, dir_blk m c t h]

/-- The first moment's codes that a point writes. -/
theorem code1_row (i : Fin 256) (k : Fin 512) : (outsAt0 m c t.val t.isLt).2.2.2.1 (ix2 i k) = rowCode (mom1 m c (row t i)) k := by
  rw [code1_B m c t h, m1_blk m c t h]

/-- The second moment's codes that a point writes. -/
theorem code2_row (i : Fin 256) (k : Fin 512) : (outsAt0 m c t.val t.isLt).2.2.2.2.2.1 (ix2 i k) = rowCode (mom2 m c (row t i)) k := by
  rw [code2_B m c t h, m2_blk m c t h]

/-- The first moment's scales that a point writes. -/
theorem scale1_row (g : Fin 4) (i : Fin 256) : (outsAt0 m c t.val t.isLt).2.2.2.2.1 (ix2 g i) = rowScale (mom1 m c (row t i)) g := by
  rw [scale1_B m c t h, m1_blk m c t h]

/-- The second moment's scales that a point writes. -/
theorem scale2_row (g : Fin 4) (i : Fin 256) :
    (outsAt0 m c t.val t.isLt).2.2.2.2.2.2.1 (ix2 g i) = rowScale (mom2 m c (row t i)) g := by
  rw [scale2_B m c t h, m2_blk m c t h]

/-- The change of a block is that of its rows. -/
theorem change_blk (i : Fin 256) (d : Fin 4096) :
    rowDelta (dir (leftR m c t) (iblk m c 5 t) (iblk m c 4 t) (iblk m c 7 t) (iblk m c 6 t) i) (fun k d => leftP m c t (ix2 k d)) d
      = change m c (row t i) d := by
  rw [dir_blk m c t h]
  unfold change rowDelta
  simp only [leftP_apply]

/-- The changes that a point writes. -/
theorem delta_row (i : Fin 256) (d : Fin 4096) : (outsAt0 m c t.val t.isLt).2.1 (ix2 i d) = change m c (row t i) d := by
  rw [delta_B m c t h, change_blk m c t h]

/-- The weight codes that a point writes. -/
theorem weight_row (i : Fin 256) (d : Fin 4096) : (outsAt0 m c t.val t.isLt).1 (ix2 i d) = weight m c (row t i) d := by
  rw [weight_B m c t h, change_blk m c t h, iblk8, iblk10, iblk9]
  rfl

end Cert.KernelIdeal.Block
-- ==== Proof.Arrays.lean ====
module

public import proofs.«01_k».proof.Proof.Rows

/-!
The kernel's seven result arrays after the run, as the row functions of its arguments.
-/

@[expose] public section

set_option maxRecDepth 16384

noncomputable section

namespace Cert.KernelIdeal.Block

open Cert.KernelIdeal Cert.KernelIdeal.Gen Cert.Step
open Idealize.ShloMosaic Idealize.ShloMosaic.TcCoe

/-- Which block each output window shows at a point. -/
theorem idx_out : ∀ t : Fin cfg0.N, win0_11.index t = ![t.val - 1, 0] ∧ win0_12.index t = ![t.val - 1, 0]
    ∧ win0_13.index t = ![t.val - 1, 0] ∧ win0_14.index t = ![t.val - 1, 0] ∧ win0_15.index t = ![0, t.val - 1]
    ∧ win0_16.index t = ![t.val - 1, 0] ∧ win0_17.index t = ![0, t.val - 1] :=
  (by decide +kernel : ∀ t : Fin grid0.N, _)

variable (m : (ℓ : Loc nD τ sig) → Buf (Elt Ideal) ℓ) (c : Dev nD)

/-- Point 0 does not write window 11 back. -/
theorem flush_11 : ∀ t : Fin cfg0.N, (cfg0.win 11).flush t = true → ¬ t.val % 57 = 0 :=
  (by decide +kernel : ∀ t : Fin grid0.N, win0_11.flush t = true → ¬ t.val % 57 = 0)

/-- The new weight codes. -/
theorem final_11 : (dats m 0 c).arrAt 11 cfg0.N = fun j : S14336x4096.Idx => weight m c (j 0) (j 1) := by
  refine (dats m 0 c).arrAt_eq_of_covers 11 _ (by decide +kernel) fun t hf y => ?_
  have h := flush_11 t hf
  blk_simp
  rw [after0_11]
  obtain ⟨a, b, rfl⟩ : ∃ (a : Fin 256) (b : Fin 4096), y = ix2 a b := ⟨y 0, y 1, by blk_ext⟩
  refine (weight_row m c t h a b).trans ?_
  have e0 : (((win0_11.blk t).view.emb (ix2 a b) 0 : Fin 14336) : ℕ) = (row t a : ℕ) := by blk_simp [idx_out t]; (show _ = 256 * (t.val - 1) + _; omega)
  have e1 : (((win0_11.blk t).view.emb (ix2 a b) 1 : Fin 4096) : ℕ) = (b : ℕ) := by blk_simp [idx_out t]
  exact congrArg₂ (fun (p : Fin 14336) (q : Fin 4096) => weight m c p q) (Fin.ext e0.symm) (Fin.ext e1.symm)

/-- Point 0 does not write window 12 back. -/
theorem flush_12 : ∀ t : Fin cfg0.N, (cfg0.win 12).flush t = true → ¬ t.val % 57 = 0 :=
  (by decide +kernel : ∀ t : Fin grid0.N, win0_12.flush t = true → ¬ t.val % 57 = 0)

/-- The changes of the weights. -/
theorem final_12 : (dats m 0 c).arrAt 12 cfg0.N = fun j : S14336x4096.Idx => change m c (j 0) (j 1) := by
  refine (dats m 0 c).arrAt_eq_of_covers 12 _ (by decide +kernel) fun t hf y => ?_
  have h := flush_12 t hf
  blk_simp
  rw [after0_12]
  obtain ⟨a, b, rfl⟩ : ∃ (a : Fin 256) (b : Fin 4096), y = ix2 a b := ⟨y 0, y 1, by blk_ext⟩
  refine (delta_row m c t h a b).trans ?_
  have e0 : (((win0_12.blk t).view.emb (ix2 a b) 0 : Fin 14336) : ℕ) = (row t a : ℕ) := by blk_simp [idx_out t]; (show _ = 256 * (t.val - 1) + _; omega)
  have e1 : (((win0_12.blk t).view.emb (ix2 a b) 1 : Fin 4096) : ℕ) = (b : ℕ) := by blk_simp [idx_out t]
  exact congrArg₂ (fun (p : Fin 14336) (q : Fin 4096) => change m c p q) (Fin.ext e0.symm) (Fin.ext e1.symm)

/-- Point 0 does not write window 13 back. -/
theorem flush_13 : ∀ t : Fin cfg0.N, (cfg0.win 13).flush t = true → ¬ t.val % 57 = 0 :=
  (by decide +kernel : ∀ t : Fin grid0.N, win0_13.flush t = true → ¬ t.val % 57 = 0)

/-- The directions. -/
theorem final_13 : (dats m 0 c).arrAt 13 cfg0.N = fun j : S14336x512.Idx => rowDir m c (j 0) (j 1) := by
  refine (dats m 0 c).arrAt_eq_of_covers 13 _ (by decide +kernel) fun t hf y => ?_
  have h := flush_13 t hf
  blk_simp
  rw [after0_13]
  obtain ⟨a, b, rfl⟩ : ∃ (a : Fin 256) (b : Fin 512), y = ix2 a b := ⟨y 0, y 1, by blk_ext⟩
  refine (n_row m c t h a b).trans ?_
  have e0 : (((win0_13.blk t).view.emb (ix2 a b) 0 : Fin 14336) : ℕ) = (row t a : ℕ) := by blk_simp [idx_out t]; (show _ = 256 * (t.val - 1) + _; omega)
  have e1 : (((win0_13.blk t).view.emb (ix2 a b) 1 : Fin 512) : ℕ) = (b : ℕ) := by blk_simp [idx_out t]
  exact congrArg₂ (fun (p : Fin 14336) (q : Fin 512) => rowDir m c p q) (Fin.ext e0.symm) (Fin.ext e1.symm)

/-- Point 0 does not write window 14 back. -/
theorem flush_14 : ∀ t : Fin cfg0.N, (cfg0.win 14).flush t = true → ¬ t.val % 57 = 0 :=
  (by decide +kernel : ∀ t : Fin grid0.N, win0_14.flush t = true → ¬ t.val % 57 = 0)

/-- The first moment's codes. -/
theorem final_14 : (dats m 0 c).arrAt 14 cfg0.N = fun j : S14336x512.Idx => rowCode (mom1 m c (j 0)) (j 1) := by
  refine (dats m 0 c).arrAt_eq_of_covers 14 _ (by decide +kernel) fun t hf y => ?_
  have h := flush_14 t hf
  blk_simp
  rw [after0_14]
  obtain ⟨a, b, rfl⟩ : ∃ (a : Fin 256) (b : Fin 512), y = ix2 a b := ⟨y 0, y 1, by blk_ext⟩
  refine (code1_row m c t h a b).trans ?_
  have e0 : (((win0_14.blk t).view.emb (ix2 a b) 0 : Fin 14336) : ℕ) = (row t a : ℕ) := by blk_simp [idx_out t]; (show _ = 256 * (t.val - 1) + _; omega)
  have e1 : (((win0_14.blk t).view.emb (ix2 a b) 1 : Fin 512) : ℕ) = (b : ℕ) := by blk_simp [idx_out t]
  exact congrArg₂ (fun (p : Fin 14336) (q : Fin 512) => rowCode (mom1 m c p) q) (Fin.ext e0.symm) (Fin.ext e1.symm)

/-- Point 0 does not write window 15 back. -/
theorem flush_15 : ∀ t : Fin cfg0.N, (cfg0.win 15).flush t = true → ¬ t.val % 57 = 0 :=
  (by decide +kernel : ∀ t : Fin grid0.N, win0_15.flush t = true → ¬ t.val % 57 = 0)

/-- The first moment's scales. -/
theorem final_15 : (dats m 0 c).arrAt 15 cfg0.N = fun j : S4x14336.Idx => rowScale (mom1 m c (j 1)) (j 0) := by
  refine (dats m 0 c).arrAt_eq_of_covers 15 _ (by decide +kernel) fun t hf y => ?_
  have h := flush_15 t hf
  blk_simp
  rw [after0_15]
  obtain ⟨a, b, rfl⟩ : ∃ (a : Fin 4) (b : Fin 256), y = ix2 a b := ⟨y 0, y 1, by blk_ext⟩
  refine (scale1_row m c t h a b).trans ?_
  have e0 : (((win0_15.blk t).view.emb (ix2 a b) 0 : Fin 4) : ℕ) = (a : ℕ) := by blk_simp [idx_out t]
  have e1 : (((win0_15.blk t).view.emb (ix2 a b) 1 : Fin 14336) : ℕ) = (row t b : ℕ) := by blk_simp [idx_out t]; (show _ = 256 * (t.val - 1) + _; omega)
  exact congrArg₂ (fun (p : Fin 4) (q : Fin 14336) => rowScale (mom1 m c q) p) (Fin.ext e0.symm) (Fin.ext e1.symm)

/-- Point 0 does not write window 16 back. -/
theorem flush_16 : ∀ t : Fin cfg0.N, (cfg0.win 16).flush t = true → ¬ t.val % 57 = 0 :=
  (by decide +kernel : ∀ t : Fin grid0.N, win0_16.flush t = true → ¬ t.val % 57 = 0)

/-- The second moment's codes. -/
theorem final_16 : (dats m 0 c).arrAt 16 cfg0.N = fun j : S14336x512.Idx => rowCode (mom2 m c (j 0)) (j 1) := by
  refine (dats m 0 c).arrAt_eq_of_covers 16 _ (by decide +kernel) fun t hf y => ?_
  have h := flush_16 t hf
  blk_simp
  rw [after0_16]
  obtain ⟨a, b, rfl⟩ : ∃ (a : Fin 256) (b : Fin 512), y = ix2 a b := ⟨y 0, y 1, by blk_ext⟩
  refine (code2_row m c t h a b).trans ?_
  have e0 : (((win0_16.blk t).view.emb (ix2 a b) 0 : Fin 14336) : ℕ) = (row t a : ℕ) := by blk_simp [idx_out t]; (show _ = 256 * (t.val - 1) + _; omega)
  have e1 : (((win0_16.blk t).view.emb (ix2 a b) 1 : Fin 512) : ℕ) = (b : ℕ) := by blk_simp [idx_out t]
  exact congrArg₂ (fun (p : Fin 14336) (q : Fin 512) => rowCode (mom2 m c p) q) (Fin.ext e0.symm) (Fin.ext e1.symm)

/-- Point 0 does not write window 17 back. -/
theorem flush_17 : ∀ t : Fin cfg0.N, (cfg0.win 17).flush t = true → ¬ t.val % 57 = 0 :=
  (by decide +kernel : ∀ t : Fin grid0.N, win0_17.flush t = true → ¬ t.val % 57 = 0)

/-- The second moment's scales. -/
theorem final_17 : (dats m 0 c).arrAt 17 cfg0.N = fun j : S4x14336.Idx => rowScale (mom2 m c (j 1)) (j 0) := by
  refine (dats m 0 c).arrAt_eq_of_covers 17 _ (by decide +kernel) fun t hf y => ?_
  have h := flush_17 t hf
  blk_simp
  rw [after0_17]
  obtain ⟨a, b, rfl⟩ : ∃ (a : Fin 4) (b : Fin 256), y = ix2 a b := ⟨y 0, y 1, by blk_ext⟩
  refine (scale2_row m c t h a b).trans ?_
  have e0 : (((win0_17.blk t).view.emb (ix2 a b) 0 : Fin 4) : ℕ) = (a : ℕ) := by blk_simp [idx_out t]
  have e1 : (((win0_17.blk t).view.emb (ix2 a b) 1 : Fin 14336) : ℕ) = (row t b : ℕ) := by blk_simp [idx_out t]; (show _ = 256 * (t.val - 1) + _; omega)
  exact congrArg₂ (fun (p : Fin 4) (q : Fin 14336) => rowScale (mom2 m c q) p) (Fin.ext e0.symm) (Fin.ext e1.symm)

end Cert.KernelIdeal.Block
-- ==== Proof.Mask.lean ====
module

public import proofs.«01_k».proof.Proof.Gen.On_scale_usable
public import Idealize.ShloMosaic.Lib.Pipeline.ValueKit

/-!
Where the mask of the claim selects the new weight codes: on the rows whose weight scale is neither zero nor infinite.
-/

@[expose] public section

noncomputable section

namespace Cert.On_scale_usable

open Cert.On_scale_usable Cert.On_scale_usable.Gen
open Idealize.ShloMosaic

/-- On a selected row the weight scale is neither zero nor infinite. -/
theorem of_selected (x0 : FVec Ideal S2x128x4096 .bf16) (x1 : FVec Ideal S2x128x14336 .bf16) (x2 : IVec S512x2048 8) (x3 : FVec Ideal S512x16 .f32)
    (x4 : IVec S14336x512 8) (x5 : FVec Ideal S14336x4 .f32) (x6 : IVec S14336x512 8) (x7 : FVec Ideal S14336x4 .f32)
    (x8 : IVec S14336x4096 8) (x9 : FVec Ideal S14336 .f32) (x10 : IVec S14336x4096 8) (o : Fin 14336) (d : Fin 4096)
    (h : (fn x0 x1 x2 x3 x4 x5 x6 x7 x8 x9 x10).1 (ix2 o d) = 1#1) :
    x9 (ix1 o) ≠ 0 ∧ x9 (ix1 o) ≠ ⊤ ∧ x9 (ix1 o) ≠ ⊥ := by
  unfold fn at h
  dsimp only at h
  pointwise at h
  have hb : ∀ p q : Bool, IntOp.andi (BitVec.ofBool p) (BitVec.ofBool q) = 1#1 → p = true ∧ q = true := by decide
  obtain ⟨h1, h2⟩ := hb _ _ h
  have h1 := of_decide_eq_true h1
  have h2 := of_decide_eq_true h2
  refine ⟨fun e => ?_, fun e => ?_, fun e => ?_⟩
  · rw [e] at h1
    simp [Ideal.absf_def] at h1
  · rw [e] at h2
    simp [Ideal.absf_def] at h2
  · rw [e] at h2
    simp [Ideal.absf_def] at h2

end Cert.On_scale_usable
-- ==== Proof.Algebra.lean ====
module

public import proofs.«01_k».proof.Defs
public import proofs.«01_k».proof.Proof.Arrays
public import proofs.«01_k».proof.Proof.Mask
public import proofs.«01_k».proof.Proof.Gen.KernelIdeal.Value
public import proofs.«01_k».proof.Proof.Gen.ReferenceIdeal.Run
public import Idealize.ShloMosaic.Lib.Quiescent

/-!
The value claim: both programs' results are the same row functions of arguments that agree.
-/

@[expose] public section

set_option maxRecDepth 16384

noncomputable section

namespace Cert.Proof

open Idealize.ShloMosaic Idealize.ShloMosaic.TcCoe Idealize.SL.Sem
open Cert.KernelIdeal (S14336x512 S14336x4096 S4x14336)
open Cert.KernelIdeal.Block (weight change rowDir mom1 mom2)
open Cert.Step

/-- An index of two axes is the pair of its coordinates. -/
theorem ix2_eta {n k : ℕ} (j : (⟨2, ![n, k]⟩ : Shape).Idx) : j = ix2 (j 0) (j 1) := by
  blk_ext

/-- The two memories agree on the arguments of one device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The weight scale of row o. -/
def wscale (o : Fin 14336) : EReal := m ((c.tc : Thread Cert.KernelIdeal.nD Cert.KernelIdeal.τ).loc Cert.KernelIdeal.main_arg9) (ix1 o)

/-- The reference's new weight codes on a row whose scale is usable. -/
theorem ref_118 (h : Agree m m' c) (j : S14336x4096.Idx)
    (hs : wscale m c (j 0) ≠ 0 ∧ wscale m c (j 0) ≠ ⊤ ∧ wscale m c (j 0) ≠ ⊥) :
    Cert.ReferenceIdeal.Value.res_main_v118 m' c j = weight m c (j 0) (j 1) := by
  obtain ⟨a0, a1, a2, a3, a4, a5, a6, a7, a8, a9, a10⟩ := h
  rw [Cert.ReferenceIdeal.Read.val_main_v118_eq, a0, a1, a2, a3, a4, a5, a6, a7, a8, a9, a10]
  exact (congrArg _ (ix2_eta j)).trans (RefRows.weight_apply _ _ _ _ _ _ _ _ _ _ _ (j 0) (j 1) hs.1 hs.2.1 hs.2.2)

/-- The reference's changes of the weights. -/
theorem ref_100 (h : Agree m m' c) (j : S14336x4096.Idx) :
    Cert.ReferenceIdeal.Value.res_main_v100 m' c j = change m c (j 0) (j 1) := by
  obtain ⟨a0, a1, a2, a3, a4, a5, a6, a7, _, _, _⟩ := h
  rw [Cert.ReferenceIdeal.Read.val_main_v100_eq, a0, a1, a2, a3, a4, a5, a6, a7]
  exact (congrArg _ (ix2_eta j)).trans (RefRows.change_apply _ _ _ _ _ _ _ _ (j 0) (j 1))

/-- The reference's directions. -/
theorem ref_59 (h : Agree m m' c) (j : S14336x512.Idx) :
    Cert.ReferenceIdeal.Value.res_main_v59 m' c j = rowDir m c (j 0) (j 1) := by
  obtain ⟨a0, a1, a2, a3, a4, a5, a6, a7, _, _, _⟩ := h
  rw [Cert.ReferenceIdeal.Read.val_main_v59_eq, a0, a1, a2, a3, a4, a5, a6, a7]
  exact (congrArg _ (ix2_eta j)).trans (RefRows.dir_apply _ _ _ _ _ _ _ _ (j 0) (j 1))

/-- The reference's first moment's codes. -/
theorem ref_75 (h : Agree m m' c) (j : S14336x512.Idx) :
    Cert.ReferenceIdeal.Value.res_main_v75 m' c j = rowCode (mom1 m c (j 0)) (j 1) := by
  obtain ⟨a0, a1, a2, a3, a4, a5, _, _, _, _, _⟩ := h
  rw [Cert.ReferenceIdeal.Read.val_main_v75_eq, a0, a1, a2, a3, a4, a5]
  exact (congrArg _ (ix2_eta j)).trans (RefRows.code1_apply _ _ _ _ _ _ (j 0) (j 1))

/-- The reference's first moment's scales. -/
theorem ref_119 (h : Agree m m' c) (j : S4x14336.Idx) :
    Cert.ReferenceIdeal.Value.res_main_v119 m' c j = rowScale (mom1 m c (j 1)) (j 0) := by
  obtain ⟨a0, a1, a2, a3, a4, a5, _, _, _, _, _⟩ := h
  rw [Cert.ReferenceIdeal.Read.val_main_v119_eq, a0, a1, a2, a3, a4, a5]
  exact (congrArg _ (ix2_eta j)).trans (RefRows.scale1T_apply _ _ _ _ _ _ (j 0) (j 1))

/-- The reference's second moment's codes. -/
theorem ref_91 (h : Agree m m' c) (j : S14336x512.Idx) :
    Cert.ReferenceIdeal.Value.res_main_v91 m' c j = rowCode (mom2 m c (j 0)) (j 1) := by
  obtain ⟨a0, a1, a2, a3, _, _, a6, a7, _, _, _⟩ := h
  rw [Cert.ReferenceIdeal.Read.val_main_v91_eq, a0, a1, a2, a3, a6, a7]
  exact (congrArg _ (ix2_eta j)).trans (RefRows.code2_apply _ _ _ _ _ _ (j 0) (j 1))

/-- The reference's second moment's scales. -/
theorem ref_120 (h : Agree m m' c) (j : S4x14336.Idx) :
    Cert.ReferenceIdeal.Value.res_main_v120 m' c j = rowScale (mom2 m c (j 1)) (j 0) := by
  obtain ⟨a0, a1, a2, a3, _, _, a6, a7, _, _, _⟩ := h
  rw [Cert.ReferenceIdeal.Read.val_main_v120_eq, a0, a1, a2, a3, a6, a7]
  exact (congrArg _ (ix2_eta j)).trans (RefRows.scale2T_apply _ _ _ _ _ _ (j 0) (j 1))

/-- Where the mask selects a new weight code, the row's scale is neither zero nor infinite. -/
theorem usable (j : S14336x4096.Idx)
    (h : (Cert.On_scale_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 j = 1#1) :
    wscale m c (j 0) ≠ 0 ∧ wscale m c (j 0) ≠ ⊤ ∧ wscale m c (j 0) ≠ ⊥ :=
  Cert.On_scale_usable.of_selected _ _ _ _ _ _ _ _ _ _ _ (j 0) (j 1) ((congrArg _ (ix2_eta j).symm).trans h)

/-- From memories that agree on the arguments, both programs run and end with equal results where the mask is set. -/
theorem algebraic : Cert.algebraic_KernelIdeal_ReferenceIdeal_on_scale_usable := by
  intro m ρ m' ρ' _ hagree
  refine ⟨(fun c (j : S14336x4096.Idx) => weight m c (j 0) (j 1)),
    (fun c (j : S14336x4096.Idx) => change m c (j 0) (j 1)),
    (fun c (j : S14336x512.Idx) => rowDir m c (j 0) (j 1)),
    (fun c (j : S14336x512.Idx) => rowCode (mom1 m c (j 0)) (j 1)),
    (fun c (j : S4x14336.Idx) => rowScale (mom1 m c (j 1)) (j 0)),
    (fun c (j : S14336x512.Idx) => rowCode (mom2 m c (j 0)) (j 1)),
    (fun c (j : S4x14336.Idx) => rowScale (mom2 m c (j 1)) (j 0)), ?_, ?_⟩
  · refine (θ_run Cert.KernelIdeal.defs _ _).mono (fun r h c => ?_) (Cert.KernelIdeal.Value.run_blocks (F := Ideal) m ρ)
    obtain ⟨h0, h1, h2, h3, h4, h5, h6, hk⟩ := h c
    exact ⟨fun i _ => congrFun (h0.trans (Cert.KernelIdeal.Block.final_11 m c)) i,
      fun i _ => congrFun (h1.trans (Cert.KernelIdeal.Block.final_12 m c)) i,
      fun i _ => congrFun (h2.trans (Cert.KernelIdeal.Block.final_13 m c)) i,
      fun i _ => congrFun (h3.trans (Cert.KernelIdeal.Block.final_14 m c)) i,
      fun i _ => congrFun (h4.trans (Cert.KernelIdeal.Block.final_15 m c)) i,
      fun i _ => congrFun (h5.trans (Cert.KernelIdeal.Block.final_16 m c)) i,
      fun i _ => congrFun (h6.trans (Cert.KernelIdeal.Block.final_17 m c)) i, hk⟩
  · refine (θ_run Cert.ReferenceIdeal.defs _ _).mono (fun r h c => ?_) (Cert.ReferenceIdeal.Value.run (F := Ideal) m' ρ')
    obtain ⟨h0, h1, h2, h3, h4, h5, h6, hk⟩ := h c
    exact ⟨fun i hi => (congrFun h0 i).trans (ref_118 m m' c (hagree c) i (usable m c i hi)),
      fun i _ => (congrFun h1 i).trans (ref_100 m m' c (hagree c) i),
      fun i _ => (congrFun h2 i).trans (ref_59 m m' c (hagree c) i),
      fun i _ => (congrFun h3 i).trans (ref_75 m m' c (hagree c) i),
      fun i _ => (congrFun h4 i).trans (ref_119 m m' c (hagree c) i),
      fun i _ => (congrFun h5 i).trans (ref_91 m m' c (hagree c) i),
      fun i _ => (congrFun h6 i).trans (ref_120 m m' c (hagree c) i), hk⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_scale_usable
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference runs and leaves its arguments; it declares no semaphore. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- Every claim: the three programs run and leave their arguments, the ideal kernel is the kernel read at the extended
    reals, and it computes what the reference computes wherever the mask is set. -/
theorem claim : Cert.Claim := ⟨Cert.Kernel.Gen.facts, Cert.KernelIdeal.Gen.facts, Cert.ReferenceIdeal.Gen.facts, Cert.On_scale_usable.Gen.facts,
  fun m ρ _ => Cert.Kernel.Gen.frame m ρ, fun m ρ _ => Cert.KernelIdeal.Gen.frame m ρ, frame_reference, trivial, algebraic⟩

end Cert.Proof

end
